-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4x16x2048x64 : Shape := ⟨4, ![4, 16, 2048, 64]⟩
abbrev S4x64x32 : Shape := ⟨3, ![4, 64, 32]⟩
abbrev S4x64x32x32 : Shape := ⟨4, ![4, 64, 32, 32]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S32x32x2 : Shape := ⟨3, ![32, 32, 2]⟩
abbrev S1x1x1x32x64 : Shape := ⟨5, ![1, 1, 1, 32, 64]⟩
abbrev S4x16x64x32x64 : Shape := ⟨5, ![4, 16, 64, 32, 64]⟩
abbrev S4x16x64x32x32 : Shape := ⟨5, ![4, 16, 64, 32, 32]⟩
abbrev S4x16x64x32x32x1 : Shape := ⟨6, ![4, 16, 64, 32, 32, 1]⟩
abbrev S4x16x64x32x32x2 : Shape := ⟨6, ![4, 16, 64, 32, 32, 2]⟩
abbrev S4x16x64x32x1x64 : Shape := ⟨6, ![4, 16, 64, 32, 1, 64]⟩
abbrev S4x16x64x1x32x64 : Shape := ⟨6, ![4, 16, 64, 1, 32, 64]⟩
abbrev S4x16x64x32x32x64 : Shape := ⟨6, ![4, 16, 64, 32, 32, 64]⟩
abbrev S4x16x64x32x1 : Shape := ⟨5, ![4, 16, 64, 32, 1]⟩
abbrev S4x16x64x32 : Shape := ⟨4, ![4, 16, 64, 32]⟩

class Facts : Prop where
  bcast_S_S32 : S_.BroadcastsInDim S32 (![] : Fin 0 → Fin S32.rank)
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  concatenates_S32x32_S32x32_S32x64_d1 : Shape.Concatenates [S32x32, S32x32] S32x64 1
  slices_S32x64_S32x32_0_32 : S32x64.Slices ![0, 32] S32x32
  bcast_S32x32_S32x32x2_0_1 : S32x32.BroadcastsInDim S32x32x2 (![0, 1] : Fin 2 → Fin S32x32x2.rank)
  shapeCasts_S32x32x2_S32x64 : S32x32x2.ShapeCasts S32x64
  slices_S32x64_S32x32_0_0 : S32x64.Slices ![0, 0] S32x32
  bcast_S32x64_S1x1x1x32x64_3_4 : S32x64.BroadcastsInDim S1x1x1x32x64 (![3, 4] : Fin 2 → Fin S1x1x1x32x64.rank)
  shapeCasts_S4x16x2048x64_S4x16x64x32x64 : S4x16x2048x64.ShapeCasts S4x16x64x32x64
  slicesBy_S4x16x64x32x64_S4x16x64x32x32_0s1_0s1_0s1_0s1_0s2 : S4x16x64x32x64.SlicesBy (![0, 0, 0, 0, 0] : Fin 5 → Nat) ![1, 1, 1, 1, 2] S4x16x64x32x32
  slicesBy_S4x16x64x32x64_S4x16x64x32x32_0s1_0s1_0s1_0s1_1s2 : S4x16x64x32x64.SlicesBy (![0, 0, 0, 0, 1] : Fin 5 → Nat) ![1, 1, 1, 1, 2] S4x16x64x32x32
  bcast_S4x16x64x32x32_S4x16x64x32x32x1_0_1_2_3_4 : S4x16x64x32x32.BroadcastsInDim S4x16x64x32x32x1 (![0, 1, 2, 3, 4] : Fin 5 → Fin S4x16x64x32x32x1.rank)
  concatenates_S4x16x64x32x32x1_S4x16x64x32x32x1_S4x16x64x32x32x2_d5 : Shape.Concatenates [S4x16x64x32x32x1, S4x16x64x32x32x1] S4x16x64x32x32x2 5
  shapeCasts_S4x16x64x32x32x2_S4x16x64x32x64 : S4x16x64x32x32x2.ShapeCasts S4x16x64x32x64
  bcast_S1x1x1x32x64_S4x16x64x32x64_0_1_2_3_4 : S1x1x1x32x64.BroadcastsInDim S4x16x64x32x64 (![0, 1, 2, 3, 4] : Fin 5 → Fin S4x16x64x32x64.rank)
  bcast_S4x16x64x32x64_S4x16x64x32x1x64_0_1_2_3_5 : S4x16x64x32x64.BroadcastsInDim S4x16x64x32x1x64 (![0, 1, 2, 3, 5] : Fin 5 → Fin S4x16x64x32x1x64.rank)
  bcast_S4x16x64x32x64_S4x16x64x1x32x64_0_1_2_4_5 : S4x16x64x32x64.BroadcastsInDim S4x16x64x1x32x64 (![0, 1, 2, 4, 5] : Fin 5 → Fin S4x16x64x1x32x64.rank)
  bcast_S4x16x64x32x1x64_S4x16x64x32x32x64_0_1_2_3_4_5 : S4x16x64x32x1x64.BroadcastsInDim S4x16x64x32x32x64 (![0, 1, 2, 3, 4, 5] : Fin 6 → Fin S4x16x64x32x32x64.rank)
  bcast_S4x16x64x1x32x64_S4x16x64x32x32x64_0_1_2_3_4_5 : S4x16x64x1x32x64.BroadcastsInDim S4x16x64x32x32x64 (![0, 1, 2, 3, 4, 5] : Fin 6 → Fin S4x16x64x32x32x64.rank)
  reducesTo_S4x16x64x32x32x64_S4x16x64x32x32_d5 : S4x16x64x32x32x64.ReducesTo [5] S4x16x64x32x32
  h_S_ : 0 < S_.numel
  bcast_S_S4x16x64x32x32 : S_.BroadcastsInDim S4x16x64x32x32 (![] : Fin 0 → Fin S4x16x64x32x32.rank)
  reducesTo_S4x64x32x32_S_d0_1_2_3 : S4x64x32x32.ReducesTo [0, 1, 2, 3] S_
  slices_S4x16x64x32x32_S4x16x64x32x1_0_0_0_0_0 : S4x16x64x32x32.Slices ![0, 0, 0, 0, 0] S4x16x64x32x1
  bcast_S4x16x64x32x1_S4x16x64x32x32_0_1_2_3_4 : S4x16x64x32x1.BroadcastsInDim S4x16x64x32x32 (![0, 1, 2, 3, 4] : Fin 5 → Fin S4x16x64x32x32.rank)
  reducesTo_S4x16x64x32x32_S_d0_1_2_3_4 : S4x16x64x32x32.ReducesTo [0, 1, 2, 3, 4] S_
  reducesTo_S4x16x64x32x32_S4x16x64x32_d4 : S4x16x64x32x32.ReducesTo [4] S4x16x64x32
  bcast_S_S4x16x64x32 : S_.BroadcastsInDim S4x16x64x32 (![] : Fin 0 → Fin S4x16x64x32.rank)
  reducesTo_S4x16x64x32_S_d0_1_2_3 : S4x16x64x32.ReducesTo [0, 1, 2, 3] S_

variable [Facts]

def fn_part3 {F : FTy → Type} [FloatOps F] (main_v57 : FVec F S4x16x64x32x32 .f32) (main_v60 : IVec S_ 1) (main_v63 : IVec S4x16x64x32x32 1) (main_c_5 : IVec S_ 1) : IVec S_ 1 :=
  let main_v64 : IVec S_ 1 := (fun x v => Host.reduce IntOp.andi x v reducesTo_S4x16x64x32x32_S_d0_1_2_3_4 h_S_) main_v63 main_c_5
  let main_v65 : IVec S_ 1 := andi main_v60 main_v64
  let main_cst_6 : FVec F S_ .f32 := constant S_ .f32 0x7F800000#32
  let main_v66 : FVec F S4x16x64x32x32 .f32 := broadcastInDim S4x16x64x32x32 ![] bcast_S_S4x16x64x32x32 main_cst_6
  let main_v67 : IVec S4x16x64x32x32 1 := cmpf .olt main_v57 main_v66
  let main_c_7 : IVec S_ 1 := constantI S_ 1 1#1
  let main_v68 : IVec S_ 1 := (fun x v => Host.reduce IntOp.andi x v reducesTo_S4x16x64x32x32_S_d0_1_2_3_4 h_S_) main_v67 main_c_7
  let main_v69 : IVec S_ 1 := andi main_v65 main_v68
  let main_cst_8 : FVec F S_ .f32 := constant S_ .f32 0xFF800000#32
  let main_v70 : FVec F S4x16x64x32 .f32 := (fun x v => Host.reduce FloatOps.maximumf x v reducesTo_S4x16x64x32x32_S4x16x64x32_d4 h_S_) main_v57 main_cst_8
  let main_cst_9 : FVec F S_ .f32 := constant S_ .f32 0xC3940000#32
  let main_v71 : FVec F S4x16x64x32 .f32 := broadcastInDim S4x16x64x32 ![] bcast_S_S4x16x64x32 main_cst_9
  let main_v72 : IVec S4x16x64x32 1 := cmpf .oge main_v70 main_v71
  let main_c_10 : IVec S_ 1 := constantI S_ 1 1#1
  let main_v73 : IVec S_ 1 := (fun x v => Host.reduce IntOp.andi x v reducesTo_S4x16x64x32_S_d0_1_2_3 h_S_) main_v72 main_c_10
  let main_v74 : IVec S_ 1 := andi main_v69 main_v73
  main_v74

def fn_part2 {F : FTy → Type} [FloatOps F] (main_arg4 : IVec S4x64x32x32 1) (main_v24 : FVec F S1x1x1x32x64 .f32) (main_v25 : FVec F S1x1x1x32x64 .f32) (main_v38 : FVec F S4x16x64x32x64 .f32) (main_v39 : FVec F S4x16x64x32x64 .f32) (main_v40 : FVec F S4x16x64x32x32 .f32) (main_v43 : FVec F S4x16x64x32x32x1 .f32) : IVec S_ 1 :=
  let main_v44 : FVec F S4x16x64x32x32x1 .f32 := broadcastInDim S4x16x64x32x32x1 ![0, 1, 2, 3, 4] bcast_S4x16x64x32x32_S4x16x64x32x32x1_0_1_2_3_4 main_v40
  let main_v45 : FVec F S4x16x64x32x32x2 .f32 := (fun a b => concatenate S4x16x64x32x32x2 5 [⟨S4x16x64x32x32x1, a⟩, ⟨S4x16x64x32x32x1, b⟩] concatenates_S4x16x64x32x32x1_S4x16x64x32x32x1_S4x16x64x32x32x2_d5) main_v43 main_v44
  let main_v46 : FVec F S4x16x64x32x64 .f32 := shapeCast S4x16x64x32x64 main_v45 shapeCasts_S4x16x64x32x32x2_S4x16x64x32x64
  let main_v47 : FVec F S4x16x64x32x64 .f32 := broadcastInDim S4x16x64x32x64 ![0, 1, 2, 3, 4] bcast_S1x1x1x32x64_S4x16x64x32x64_0_1_2_3_4 main_v24
  let main_v48 : FVec F S4x16x64x32x64 .f32 := mulf main_v39 main_v47
  let main_v49 : FVec F S4x16x64x32x64 .f32 := broadcastInDim S4x16x64x32x64 ![0, 1, 2, 3, 4] bcast_S1x1x1x32x64_S4x16x64x32x64_0_1_2_3_4 main_v25
  let main_v50 : FVec F S4x16x64x32x64 .f32 := mulf main_v46 main_v49
  let main_v51 : FVec F S4x16x64x32x64 .f32 := addf main_v48 main_v50
  let main_v52 : FVec F S4x16x64x32x1x64 .f32 := broadcastInDim S4x16x64x32x1x64 ![0, 1, 2, 3, 5] bcast_S4x16x64x32x64_S4x16x64x32x1x64_0_1_2_3_5 main_v38
  let main_v53 : FVec F S4x16x64x1x32x64 .f32 := broadcastInDim S4x16x64x1x32x64 ![0, 1, 2, 4, 5] bcast_S4x16x64x32x64_S4x16x64x1x32x64_0_1_2_4_5 main_v51
  let main_v54 : FVec F S4x16x64x32x32x64 .f32 := broadcastInDim S4x16x64x32x32x64 ![0, 1, 2, 3, 4, 5] bcast_S4x16x64x32x1x64_S4x16x64x32x32x64_0_1_2_3_4_5 main_v52
  let main_v55 : FVec F S4x16x64x32x32x64 .f32 := broadcastInDim S4x16x64x32x32x64 ![0, 1, 2, 3, 4, 5] bcast_S4x16x64x1x32x64_S4x16x64x32x32x64_0_1_2_3_4_5 main_v53
  let main_v56 : FVec F S4x16x64x32x32x64 .f32 := mulf main_v54 main_v55
  let main_cst_3 : FVec F S_ .f32 := constant S_ .f32 0x00000000#32
  let main_v57 : FVec F S4x16x64x32x32 .f32 := (fun x v => Host.reduceAdd x v reducesTo_S4x16x64x32x32x64_S4x16x64x32x32_d5 h_S_) main_v56 main_cst_3
  let main_cst_4 : FVec F S_ .f32 := constant S_ .f32 0x00000000#32
  let main_v58 : FVec F S4x16x64x32x32 .f32 := broadcastInDim S4x16x64x32x32 ![] bcast_S_S4x16x64x32x32 main_cst_4
  let main_v59 : IVec S4x16x64x32x32 1 := cmpf .une main_v57 main_v58
  let main_c : IVec S_ 1 := constantI S_ 1 1#1
  let main_v60 : IVec S_ 1 := (fun x v => Host.reduce IntOp.andi x v reducesTo_S4x64x32x32_S_d0_1_2_3 h_S_) main_arg4 main_c
  let main_v61 : IVec S4x16x64x32x1 1 := (extractStridedSlice S4x16x64x32x1 ![0, 0, 0, 0, 0] · slices_S4x16x64x32x32_S4x16x64x32x1_0_0_0_0_0) main_v59
  let main_v62 : IVec S4x16x64x32x32 1 := broadcastInDim S4x16x64x32x32 ![0, 1, 2, 3, 4] bcast_S4x16x64x32x1_S4x16x64x32x32_0_1_2_3_4 main_v61
  let main_v63 : IVec S4x16x64x32x32 1 := cmpi .eq main_v59 main_v62
  let main_c_5 : IVec S_ 1 := constantI S_ 1 1#1
  fn_part3 (F := F) main_v57 main_v60 main_v63 main_c_5

def fn_part1 {F : FTy → Type} [FloatOps F] (main_arg0 : FVec F S4x16x2048x64 .f32) (main_arg1 : FVec F S4x16x2048x64 .f32) (main_arg4 : IVec S4x64x32x32 1) (main_v17 : FVec F S32x64 .f32) (main_v19 : FVec F S32x32x2 .f32) : IVec S_ 1 :=
  let main_v20 : FVec F S32x64 .f32 := shapeCast S32x64 main_v19 shapeCasts_S32x32x2_S32x64
  let main_v21 : FVec F S32x32 .f32 := (extractStridedSlice S32x32 ![0, 0] · slices_S32x64_S32x32_0_0) main_v17
  let main_v22 : FVec F S32x32x2 .f32 := broadcastInDim S32x32x2 ![0, 1] bcast_S32x32_S32x32x2_0_1 main_v21
  let main_v23 : FVec F S32x64 .f32 := shapeCast S32x64 main_v22 shapeCasts_S32x32x2_S32x64
  let main_v24 : FVec F S1x1x1x32x64 .f32 := broadcastInDim S1x1x1x32x64 ![3, 4] bcast_S32x64_S1x1x1x32x64_3_4 main_v20
  let main_v25 : FVec F S1x1x1x32x64 .f32 := broadcastInDim S1x1x1x32x64 ![3, 4] bcast_S32x64_S1x1x1x32x64_3_4 main_v23
  let main_v26 : FVec F S4x16x64x32x64 .f32 := shapeCast S4x16x64x32x64 main_arg0 shapeCasts_S4x16x2048x64_S4x16x64x32x64
  let main_v27 : FVec F S4x16x64x32x32 .f32 := (Host.slice S4x16x64x32x32 ![0, 0, 0, 0, 0] ![1, 1, 1, 1, 2] · slicesBy_S4x16x64x32x64_S4x16x64x32x32_0s1_0s1_0s1_0s1_0s2) main_v26
  let main_v28 : FVec F S4x16x64x32x32 .f32 := (Host.slice S4x16x64x32x32 ![0, 0, 0, 0, 1] ![1, 1, 1, 1, 2] · slicesBy_S4x16x64x32x64_S4x16x64x32x32_0s1_0s1_0s1_0s1_1s2) main_v26
  let main_v29 : FVec F S4x16x64x32x32 .f32 := Host.negf main_v28
  let main_v30 : FVec F S4x16x64x32x32x1 .f32 := broadcastInDim S4x16x64x32x32x1 ![0, 1, 2, 3, 4] bcast_S4x16x64x32x32_S4x16x64x32x32x1_0_1_2_3_4 main_v29
  let main_v31 : FVec F S4x16x64x32x32x1 .f32 := broadcastInDim S4x16x64x32x32x1 ![0, 1, 2, 3, 4] bcast_S4x16x64x32x32_S4x16x64x32x32x1_0_1_2_3_4 main_v27
  let main_v32 : FVec F S4x16x64x32x32x2 .f32 := (fun a b => concatenate S4x16x64x32x32x2 5 [⟨S4x16x64x32x32x1, a⟩, ⟨S4x16x64x32x32x1, b⟩] concatenates_S4x16x64x32x32x1_S4x16x64x32x32x1_S4x16x64x32x32x2_d5) main_v30 main_v31
  let main_v33 : FVec F S4x16x64x32x64 .f32 := shapeCast S4x16x64x32x64 main_v32 shapeCasts_S4x16x64x32x32x2_S4x16x64x32x64
  let main_v34 : FVec F S4x16x64x32x64 .f32 := broadcastInDim S4x16x64x32x64 ![0, 1, 2, 3, 4] bcast_S1x1x1x32x64_S4x16x64x32x64_0_1_2_3_4 main_v24
  let main_v35 : FVec F S4x16x64x32x64 .f32 := mulf main_v26 main_v34
  let main_v36 : FVec F S4x16x64x32x64 .f32 := broadcastInDim S4x16x64x32x64 ![0, 1, 2, 3, 4] bcast_S1x1x1x32x64_S4x16x64x32x64_0_1_2_3_4 main_v25
  let main_v37 : FVec F S4x16x64x32x64 .f32 := mulf main_v33 main_v36
  let main_v38 : FVec F S4x16x64x32x64 .f32 := addf main_v35 main_v37
  let main_v39 : FVec F S4x16x64x32x64 .f32 := shapeCast S4x16x64x32x64 main_arg1 shapeCasts_S4x16x2048x64_S4x16x64x32x64
  let main_v40 : FVec F S4x16x64x32x32 .f32 := (Host.slice S4x16x64x32x32 ![0, 0, 0, 0, 0] ![1, 1, 1, 1, 2] · slicesBy_S4x16x64x32x64_S4x16x64x32x32_0s1_0s1_0s1_0s1_0s2) main_v39
  let main_v41 : FVec F S4x16x64x32x32 .f32 := (Host.slice S4x16x64x32x32 ![0, 0, 0, 0, 1] ![1, 1, 1, 1, 2] · slicesBy_S4x16x64x32x64_S4x16x64x32x32_0s1_0s1_0s1_0s1_1s2) main_v39
  let main_v42 : FVec F S4x16x64x32x32 .f32 := Host.negf main_v41
  let main_v43 : FVec F S4x16x64x32x32x1 .f32 := broadcastInDim S4x16x64x32x32x1 ![0, 1, 2, 3, 4] bcast_S4x16x64x32x32_S4x16x64x32x32x1_0_1_2_3_4 main_v42
  fn_part2 (F := F) main_arg4 main_v24 main_v25 main_v38 main_v39 main_v40 main_v43

def fn {F : FTy → Type} [FloatOps F] (main_arg0 : FVec F S4x16x2048x64 .f32) (main_arg1 : FVec F S4x16x2048x64 .f32) (main_arg2 : FVec F S4x16x2048x64 .f32) (main_arg3 : IVec S4x64x32 1) (main_arg4 : IVec S4x64x32x32 1) : IVec S_ 1 :=
  let main_v0 : FVec F S32 .f32 := sitofp .f32 (iotaInDim S32 32 0)
  let main_v1 : FVec F S32 .f32 := sitofp .f32 (iotaInDim S32 32 0)
  let main_cst : FVec F S_ .f32 := constant S_ .f32 0x40000000#32
  let main_v2 : FVec F S32 .f32 := broadcastInDim S32 ![] bcast_S_S32 main_cst
  let main_v3 : FVec F S32 .f32 := mulf main_v2 main_v1
  let main_cst_0 : FVec F S_ .f32 := constant S_ .f32 0x42800000#32
  let main_v4 : FVec F S32 .f32 := broadcastInDim S32 ![] bcast_S_S32 main_cst_0
  let main_v5 : FVec F S32 .f32 := Host.divf main_v3 main_v4
  let main_cst_1 : FVec F S_ .f32 := constant S_ .f32 0x461C4000#32
  let main_v6 : FVec F S32 .f32 := broadcastInDim S32 ![] bcast_S_S32 main_cst_1
  let main_v7 : FVec F S32 .f32 := Host.powf main_v6 main_v5
  let main_cst_2 : FVec F S_ .f32 := constant S_ .f32 0x3F800000#32
  let main_v8 : FVec F S32 .f32 := broadcastInDim S32 ![] bcast_S_S32 main_cst_2
  let main_v9 : FVec F S32 .f32 := Host.divf main_v8 main_v7
  let main_v10 : FVec F S32x1 .f32 := broadcastInDim S32x1 ![0] bcast_S32_S32x1_0 main_v0
  let main_v11 : FVec F S1x32 .f32 := broadcastInDim S1x32 ![1] bcast_S32_S1x32_1 main_v9
  let main_v12 : FVec F S32x32 .f32 := broadcastInDim S32x32 ![0, 1] bcast_S32x1_S32x32_0_1 main_v10
  let main_v13 : FVec F S32x32 .f32 := broadcastInDim S32x32 ![0, 1] bcast_S1x32_S32x32_0_1 main_v11
  let main_v14 : FVec F S32x32 .f32 := mulf main_v12 main_v13
  let main_v15 : FVec F S32x32 .f32 := Host.sin main_v14
  let main_v16 : FVec F S32x32 .f32 := Host.cos main_v14
  let main_v17 : FVec F S32x64 .f32 := (fun a b => concatenate S32x64 1 [⟨S32x32, a⟩, ⟨S32x32, b⟩] concatenates_S32x32_S32x32_S32x64_d1) main_v15 main_v16
  let main_v18 : FVec F S32x32 .f32 := (extractStridedSlice S32x32 ![0, 32] · slices_S32x64_S32x32_0_32) main_v17
  let main_v19 : FVec F S32x32x2 .f32 := broadcastInDim S32x32x2 ![0, 1] bcast_S32x32_S32x32x2_0_1 main_v18
  fn_part1 (F := F) main_arg0 main_arg1 main_arg4 main_v17 main_v19
-- ==== Kernel.lean ====
abbrev S4x16x2048x64 : Shape := ⟨4, ![4, 16, 2048, 64]⟩
abbrev S4x64x32 : Shape := ⟨3, ![4, 64, 32]⟩
abbrev S4x64x32x32 : Shape := ⟨4, ![4, 64, 32, 32]⟩
abbrev S64x64 : Shape := ⟨2, ![64, 64]⟩
abbrev S256x256 : Shape := ⟨2, ![256, 256]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S32x32x2 : Shape := ⟨3, ![32, 32, 2]⟩
abbrev S1x32x1x64 : Shape := ⟨4, ![1, 32, 1, 64]⟩
abbrev S8x32x1x64 : Shape := ⟨4, ![8, 32, 1, 64]⟩
abbrev S256x64 : Shape := ⟨2, ![256, 64]⟩
abbrev S4x2048x1024 : Shape := ⟨3, ![4, 2048, 1024]⟩
abbrev S1x16x256x64 : Shape := ⟨4, ![1, 16, 256, 64]⟩
abbrev S1x256x1024 : Shape := ⟨3, ![1, 256, 1024]⟩
abbrev S1x1x256x64 : Shape := ⟨4, ![1, 1, 256, 64]⟩
abbrev S256 : Shape := ⟨1, ![256]⟩
abbrev S256x1 : Shape := ⟨2, ![256, 1]⟩
abbrev S256x1024 : Shape := ⟨2, ![256, 1024]⟩

abbrev nBuf : Space → Nat
  | .hbm => 48
  | .vmem => 14
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x64x32, .i1⟩
  | .hbm, ⟨4, _⟩ => ⟨S4x64x32x32, .i1⟩
  | .hbm, ⟨5, _⟩ => ⟨S64x64, .f32⟩
  | .hbm, ⟨6, _⟩ => ⟨S256x256, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32x1, .f32⟩
  | .hbm, ⟨22, _⟩ => ⟨S1x32, .f32⟩
  | .hbm, ⟨23, _⟩ => ⟨S32x32, .f32⟩
  | .hbm, ⟨24, _⟩ => ⟨S32x32, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S32x64, .f32⟩
  | .hbm, ⟨29, _⟩ => ⟨S32x32, .f32⟩
  | .hbm, ⟨30, _⟩ => ⟨S32x32x2, .f32⟩
  | .hbm, ⟨31, _⟩ => ⟨S32x64, .f32⟩
  | .hbm, ⟨32, _⟩ => ⟨S32x32, .f32⟩
  | .hbm, ⟨33, _⟩ => ⟨S32x32x2, .f32⟩
  | .hbm, ⟨34, _⟩ => ⟨S32x64, .f32⟩
  | .hbm, ⟨35, _⟩ => ⟨S1x32x1x64, .f32⟩
  | .hbm, ⟨36, _⟩ => ⟨S8x32x1x64, .f32⟩
  | .hbm, ⟨37, _⟩ => ⟨S256x64, .f32⟩
  | .hbm, ⟨38, _⟩ => ⟨S1x32x1x64, .f32⟩
  | .hbm, ⟨39, _⟩ => ⟨S8x32x1x64, .f32⟩
  | .hbm, ⟨40, _⟩ => ⟨S256x64, .f32⟩
  | .hbm, ⟨41, _⟩ => ⟨S_, .f32⟩
  | .hbm, ⟨42, _⟩ => ⟨S256x64, .f32⟩
  | .hbm, ⟨43, _⟩ => ⟨S256x64, .f32⟩
  | .hbm, ⟨44, _⟩ => ⟨S_, .f32⟩
  | .hbm, ⟨45, _⟩ => ⟨S256x64, .f32⟩
  | .hbm, ⟨46, _⟩ => ⟨S256x64, .f32⟩
  | .hbm, ⟨47, _⟩ => ⟨S4x2048x1024, .f32⟩
  | .local _ .vmem, ⟨0, _⟩ => ⟨S1x16x256x64, .f32⟩
  | .local _ .vmem, ⟨1, _⟩ => ⟨S1x16x256x64, .f32⟩
  | .local _ .vmem, ⟨2, _⟩ => ⟨S1x16x256x64, .f32⟩
  | .local _ .vmem, ⟨3, _⟩ => ⟨S1x16x256x64, .f32⟩
  | .local _ .vmem, ⟨4, _⟩ => ⟨S1x16x256x64, .f32⟩
  | .local _ .vmem, ⟨5, _⟩ => ⟨S1x16x256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S64x64, .f32⟩
  | .local _ .vmem, ⟨11, _⟩ => ⟨S256x256, .f32⟩
  | .local _ .vmem, ⟨12, _⟩ => ⟨S1x256x1024, .f32⟩
  | .local _ .vmem, ⟨13, _⟩ => ⟨S1x256x1024, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_cst_1 : Ref sig .tc := ⟨.hbm, 9, rfl⟩
abbrev main_call0_v2 : Ref sig .tc := ⟨.hbm, 10, rfl⟩
abbrev main_call0_v3 : Ref sig .tc := ⟨.hbm, 11, rfl⟩
abbrev main_call0_cst_2 : Ref sig .tc := ⟨.hbm, 12, rfl⟩
abbrev main_call0_v4 : Ref sig .tc := ⟨.hbm, 13, rfl⟩
abbrev main_call0_v5 : Ref sig .tc := ⟨.hbm, 14, rfl⟩
abbrev main_call0_cst_3 : Ref sig .tc := ⟨.hbm, 15, rfl⟩
abbrev main_call0_v6 : Ref sig .tc := ⟨.hbm, 16, rfl⟩
abbrev main_call0_v7 : Ref sig .tc := ⟨.hbm, 17, rfl⟩
abbrev main_call0_cst_4 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_cst_5 : Ref sig .tc := ⟨.hbm, 41, rfl⟩
abbrev main_call0_v30 : Ref sig .tc := ⟨.hbm, 42, rfl⟩
abbrev main_call0_v31 : Ref sig .tc := ⟨.hbm, 43, rfl⟩
abbrev main_call0_cst_6 : Ref sig .tc := ⟨.hbm, 44, rfl⟩
abbrev main_call0_v32 : Ref sig .tc := ⟨.hbm, 45, rfl⟩
abbrev main_call0_v33 : Ref sig .tc := ⟨.hbm, 46, rfl⟩
abbrev main_v0 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x16x2048x64 : Shape := ⟨4, ![4, 16, 2048, 64]⟩
abbrev S4x64x32 : Shape := ⟨3, ![4, 64, 32]⟩
abbrev S4x64x32x32 : Shape := ⟨4, ![4, 64, 32, 32]⟩
abbrev S4x16x64x32x64 : Shape := ⟨5, ![4, 16, 64, 32, 64]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S32x32x2 : Shape := ⟨3, ![32, 32, 2]⟩
abbrev S1x1x1x32x64 : Shape := ⟨5, ![1, 1, 1, 32, 64]⟩
abbrev S4x16x64x32x32 : Shape := ⟨5, ![4, 16, 64, 32, 32]⟩
abbrev S4x16x64x32x32x1 : Shape := ⟨6, ![4, 16, 64, 32, 32, 1]⟩
abbrev S4x16x64x32x32x2 : Shape := ⟨6, ![4, 16, 64, 32, 32, 2]⟩
abbrev S4x16x64x64x32 : Shape := ⟨5, ![4, 16, 64, 64, 32]⟩
abbrev S4x1x64x32x32 : Shape := ⟨5, ![4, 1, 64, 32, 32]⟩
abbrev S4x16x64x32 : Shape := ⟨4, ![4, 16, 64, 32]⟩
abbrev S4x16x64x32x1 : Shape := ⟨5, ![4, 16, 64, 32, 1]⟩
abbrev S4x2048x16x64 : Shape := ⟨4, ![4, 2048, 16, 64]⟩
abbrev S4x2048x1024 : Shape := ⟨3, ![4, 2048, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x64x32, .i1⟩
  | .hbm, ⟨4, _⟩ => ⟨S4x64x32x32, .i1⟩
  | .hbm, ⟨5, _⟩ => ⟨S4x16x64x32x64, .f32⟩
  | .hbm, ⟨6, _⟩ => ⟨S4x16x64x32x64, .f32⟩
  | .hbm, ⟨7, _⟩ => ⟨S4x16x64x32x64, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32x1, .f32⟩
  | .hbm, ⟨23, _⟩ => ⟨S1x32, .f32⟩
  | .hbm, ⟨24, _⟩ => ⟨S32x32, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S32x32, .f32⟩
  | .hbm, ⟨29, _⟩ => ⟨S32x64, .f32⟩
  | .hbm, ⟨30, _⟩ => ⟨S32x32, .f32⟩
  | .hbm, ⟨31, _⟩ => ⟨S32x32x2, .f32⟩
  | .hbm, ⟨32, _⟩ => ⟨S32x64, .f32⟩
  | .hbm, ⟨33, _⟩ => ⟨S32x32, .f32⟩
  | .hbm, ⟨34, _⟩ => ⟨S32x32x2, .f32⟩
  | .hbm, ⟨35, _⟩ => ⟨S32x64, .f32⟩
  | .hbm, ⟨36, _⟩ => ⟨S1x1x1x32x64, .f32⟩
  | .hbm, ⟨37, _⟩ => ⟨S1x1x1x32x64, .f32⟩
  | .hbm, ⟨38, _⟩ => ⟨S4x16x64x32x32, .f32⟩
  | .hbm, ⟨39, _⟩ => ⟨S4x16x64x32x32, .f32⟩
  | .hbm, ⟨40, _⟩ => ⟨S4x16x64x32x32, .f32⟩
  | .hbm, ⟨41, _⟩ => ⟨S4x16x64x32x32x1, .f32⟩
  | .hbm, ⟨42, _⟩ => ⟨S4x16x64x32x32x1, .f32⟩
  | .hbm, ⟨43, _⟩ => ⟨S4x16x64x32x32x2, .f32⟩
  | .hbm, ⟨44, _⟩ => ⟨S4x16x64x32x64, .f32⟩
  | .hbm, ⟨45, _⟩ => ⟨S4x16x64x32x64, .f32⟩
  | .hbm, ⟨46, _⟩ => ⟨S4x16x64x32x64, .f32⟩
  | .hbm, ⟨47, _⟩ => ⟨S4x16x64x32x64, .f32⟩
  | .hbm, ⟨48, _⟩ => ⟨S4x16x64x32x64, .f32⟩
  | .hbm, ⟨49, _⟩ => ⟨S4x16x64x32x64, .f32⟩
  | .hbm, ⟨50, _⟩ => ⟨S4x16x64x32x32, .f32⟩
  | .hbm, ⟨51, _⟩ => ⟨S4x16x64x32x32, .f32⟩
  | .hbm, ⟨52, _⟩ => ⟨S4x16x64x32x32, .f32⟩
  | .hbm, ⟨53, _⟩ => ⟨S4x16x64x32x32x1, .f32⟩
  | .hbm, ⟨54, _⟩ => ⟨S4x16x64x32x32x1, .f32⟩
  | .hbm, ⟨55, _⟩ => ⟨S4x16x64x32x32x2, .f32⟩
  | .hbm, ⟨56, _⟩ => ⟨S4x16x64x32x64, .f32⟩
  | .hbm, ⟨57, _⟩ => ⟨S4x16x64x32x64, .f32⟩
  | .hbm, ⟨58, _⟩ => ⟨S4x16x64x32x64, .f32⟩
  | .hbm, ⟨59, _⟩ => ⟨S4x16x64x32x64, .f32⟩
  | .hbm, ⟨60, _⟩ => ⟨S4x16x64x32x64, .f32⟩
  | .hbm, ⟨61, _⟩ => ⟨S4x16x64x32x64, .f32⟩
  | .hbm, ⟨62, _⟩ => ⟨S4x16x64x64x32, .f32⟩
  | .hbm, ⟨63, _⟩ => ⟨S4x16x64x32x32, .f32⟩
  | .hbm, ⟨64, _⟩ => ⟨S_, .f32⟩
  | .hbm, ⟨65, _⟩ => ⟨S_, .f32⟩
  | .hbm, ⟨66, _⟩ => ⟨S4x16x64x32x32, .f32⟩
  | .hbm, ⟨67, _⟩ => ⟨S4x16x64x32x32, .f32⟩
  | .hbm, ⟨68, _⟩ => ⟨S4x1x64x32x32, .i1⟩
  | .hbm, ⟨69, _⟩ => ⟨S_, .f32⟩
  | .hbm, ⟨70, _⟩ => ⟨S4x16x64x32x32, .f32⟩
  | .hbm, ⟨71, _⟩ => ⟨S4x16x64x32x32, .i1⟩
  | .hbm, ⟨72, _⟩ => ⟨S4x16x64x32x32, .i1⟩
  | .hbm, ⟨73, _⟩ => ⟨S4x16x64x32x32, .i1⟩
  | .hbm, ⟨74, _⟩ => ⟨S_, .f32⟩
  | .hbm, ⟨75, _⟩ => ⟨S_, .f32⟩
  | .hbm, ⟨76, _⟩ => ⟨S4x16x64x32x32, .f32⟩
  | .hbm, ⟨77, _⟩ => ⟨S4x16x64x32x32, .f32⟩
  | .hbm, ⟨78, _⟩ => ⟨S4x16x64x32x32, .i32⟩
  | .hbm, ⟨79, _⟩ => ⟨S_, .i32⟩
  | .hbm, ⟨80, _⟩ => ⟨S4x16x64x32, .i32⟩
  | .hbm, ⟨81, _⟩ => ⟨S4x16x64x32x1, .i32⟩
  | .hbm, ⟨82, _⟩ => ⟨S_, .i32⟩
  | .hbm, ⟨83, _⟩ => ⟨S4x16x64x32x1, .i32⟩
  | .hbm, ⟨84, _⟩ => ⟨S4x16x64x32x1, .i1⟩
  | .hbm, ⟨85, _⟩ => ⟨S_, .f32⟩
  | .hbm, ⟨86, _⟩ => ⟨S4x16x64x32x32, .i1⟩
  | .hbm, ⟨87, _⟩ => ⟨S4x16x64x32x32, .f32⟩
  | .hbm, ⟨88, _⟩ => ⟨S4x16x64x32x32, .f32⟩
  | .hbm, ⟨89, _⟩ => ⟨S_, .f32⟩
  | .hbm, ⟨90, _⟩ => ⟨S4x16x64x32, .f32⟩
  | .hbm, ⟨91, _⟩ => ⟨S_, .f32⟩
  | .hbm, ⟨92, _⟩ => ⟨S4x16x64x32, .f32⟩
  | .hbm, ⟨93, _⟩ => ⟨S4x16x64x32, .f32⟩
  | .hbm, ⟨94, _⟩ => ⟨S4x16x64x32x1, .f32⟩
  | .hbm, ⟨95, _⟩ => ⟨S4x16x64x32x32, .f32⟩
  | .hbm, ⟨96, _⟩ => ⟨S4x16x64x32x32, .f32⟩
  | .hbm, ⟨97, _⟩ => ⟨S4x16x64x32x32, .f32⟩
  | .hbm, ⟨98, _⟩ => ⟨S_, .f32⟩
  | .hbm, ⟨99, _⟩ => ⟨S4x16x64x32, .f32⟩
  | .hbm, ⟨100, _⟩ => ⟨S4x16x64x32x1, .f32⟩
  | .hbm, ⟨101, _⟩ => ⟨S4x16x64x32x32, .f32⟩
  | .hbm, ⟨102, _⟩ => ⟨S4x16x64x32x32, .f32⟩
  | .hbm, ⟨103, _⟩ => ⟨S4x16x64x32x64, .f32⟩
  | .hbm, ⟨104, _⟩ => ⟨S4x16x2048x64, .f32⟩
  | .hbm, ⟨105, _⟩ => ⟨S4x2048x16x64, .f32⟩
  | .hbm, ⟨106, _⟩ => ⟨S4x2048x1024, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_3 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_4 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_5 : Ref sig .tc := ⟨.hbm, 74, rfl⟩
abbrev main_call0_v0 : Ref sig .tc := ⟨.hbm, 75, rfl⟩
abbrev main_call0_v1 : Ref sig .tc := ⟨.hbm, 76, rfl⟩
abbrev main_v63 : Ref sig .tc := ⟨.hbm, 77, rfl⟩
abbrev main_v64 : Ref sig .tc := ⟨.hbm, 78, rfl⟩
abbrev main_c : Ref sig .tc := ⟨.hbm, 79, rfl⟩
abbrev main_v65 : Ref sig .tc := ⟨.hbm, 80, rfl⟩
abbrev main_v66 : Ref sig .tc := ⟨.hbm, 81, rfl⟩
abbrev main_c_6 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_call1_v0 : Ref sig .tc := ⟨.hbm, 86, rfl⟩
abbrev main_call1_v1 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Proof.Head.lean ====
/-
  One grid point of the kernel, over the extended reals: the block of results is sixteen heads side by side, each head the
  same function of its own slice of the queries, keys and values and of the shared tables.
-/
module

public import proofs.«01_k».proof.Proof.Gen.KernelIdeal.Frame
public import Idealize.ShloMosaic.Lib.Pipeline.Value
public import Idealize.ShloMosaic.Lib.Pointwise

@[expose] public section

noncomputable section

namespace Cert.KernelIdeal.Attn

open Cert.KernelIdeal Cert.KernelIdeal.Gen Idealize.ShloMosaic Idealize.ShloMosaic.TcCoe

/-- The rectangle of head `n` in a block of sixteen heads. -/
abbrev headRect (n : Fin 16) : Rect S1x16x256x64 :=
  Rect.unit (s := S1x16x256x64) ![0, n.val, 0, 0] S1x1x256x64.size (by
    intro a
    match a with
    | ⟨0, _⟩ => exact (by decide : 0 + 1 ≤ 1)
    | ⟨1, _⟩ => exact n.isLt
    | ⟨2, _⟩ => exact (by decide : 0 + 256 ≤ 256)
    | ⟨3, _⟩ => exact (by decide : 0 + 64 ≤ 64))

/-- A head's queries (or keys) turned by the rotary embedding: `x * c + (x @ r) * s`. -/
def rotated (x : FVec Ideal S256x64 .f32) (c s : FVec Ideal S256x64 .f32) (r : FVec Ideal S64x64 .f32) : FVec Ideal S256x64 .f32 :=
  addf (mulf x c) (mulf (matmul dot_S256x64_S64x64_S256x64_1_0_0_1_n_n none x r (constant S256x64 .f32 0x00000000#32)) s)

/-- The bias as the body uses it: an entry below -32 is read as the mask. -/
def biasOf (b : FVec Ideal S256x256 .f32) : FVec Ideal S256x256 .f32 :=
  select (cmpf .olt b (broadcast S256x256 (Scalar.ofBits .f32 0xC2000000#32))) (broadcast S256x256 (Named.named κ "mask" 0xF149F2CA#32)) b

/-- The unnormalised weights of a head: the exponentials of the biased scores. -/
def weights (q k : FVec Ideal S256x64 .f32) (b : FVec Ideal S256x256 .f32) : FVec Ideal S256x256 .f32 :=
  exp (addf (matmul dot_S256x64_S256x64_S256x256_1_1_0_0_n_n none q k (constant S256x256 .f32 0x00000000#32)) b)

/-- The values averaged with the weights `e`: the weighted sums times the reciprocal of the guarded total weight. -/
def averaged (e : FVec Ideal S256x256 .f32) (v : FVec Ideal S256x64 .f32) : FVec Ideal S256x64 .f32 :=
  mulf (matmul dot_S256x256_S256x64_S256x64_1_0_0_1_n_n none e v (constant S256x64 .f32 0x00000000#32))
    (broadcastTo S256x64 (divf (broadcast S256x1 (Scalar.ofBits .f32 0x3F800000#32))
      (maximumf (shapeCast S256x1 (multiReduction .add [1] S256 e 0x00000000#32 reduces_S256x256_S256 (.inl rfl) rfl) shapeCasts_S256_S256x1)
        (broadcast S256x1 (Scalar.ofBits .f32 0x0DA24260#32)))) broadcasts_S256x1_S256x64)

/-- One head of the block. -/
def head (x0 x1 x2 : FVec Ideal S1x16x256x64 .f32) (x3 x4 x5 x6 : FVec Ideal S256x64 .f32) (x7 : FVec Ideal S64x64 .f32)
    (x8 : FVec Ideal S256x256 .f32) (n : Fin 16) : FVec Ideal S256x64 .f32 :=
  averaged
    (weights (rotated (shapeCast S256x64 (View.ld (Val := Elt Ideal) (e' := .f32) x0 (headRect n)) shapeCasts_S1x1x256x64_S256x64) x3 x4 x7)
      (rotated (shapeCast S256x64 (View.ld (Val := Elt Ideal) (e' := .f32) x1 (headRect n)) shapeCasts_S1x1x256x64_S256x64) x5 x6 x7) (biasOf x8))
    (shapeCast S256x64 (View.ld (Val := Elt Ideal) (e' := .f32) x2 (headRect n)) shapeCasts_S1x1x256x64_S256x64)

/-- Two offsets of zero. -/
theorem zero2 : (![0, 0] : Fin 2 → Nat) = fun _ => 0 := funext fun a => by fin_cases a <;> rfl
/-- Three offsets of zero. -/
theorem zero3 : (![0, 0, 0] : Fin 3 → Nat) = fun _ => 0 := funext fun a => by fin_cases a <;> rfl

/-- The block that a grid point leaves is its sixteen heads, side by side. -/
theorem out_eq (x0 x1 x2 : FVec Ideal S1x16x256x64 .f32) (x3 x4 x5 x6 : FVec Ideal S256x64 .f32) (x7 : FVec Ideal S64x64 .f32)
    (x8 : FVec Ideal S256x256 .f32) :
    out0_9 (F := Ideal) x0 x1 x2 x3 x4 x5 x6 x7 x8 =
      shapeCast S1x256x1024 (concatenate S256x1024 1 (List.ofFn fun n : Fin 16 => (⟨S256x64, head x0 x1 x2 x3 x4 x5 x6 x7 x8 n⟩ : (s : Shape) × (s.Idx → Ideal .f32)))
        concatenates_S256x64_S256x64_S256x64_S256x64_S256x64_S256x64_S256x64_S256x64_S256x64_S256x64_S256x64_S256x64_S256x64_S256x64_S256x64_S256x64_S256x1024_d1)
        shapeCasts_S256x1024_S1x256x1024 := by
  unfold_out out0_9
  rw [View.canon_unit_zero (S := S1x256x1024) zero3]
  have e : head x0 x1 x2 x3 x4 x5 x6 x7 x8 = head x0 x1 x2
      (shapeCast S256x64 (View.ld (Val := Elt Ideal) (e' := .f32) x3 r0_0) shapeCasts_S256x64_S256x64)
      (shapeCast S256x64 (View.ld (Val := Elt Ideal) (e' := .f32) x4 r0_0) shapeCasts_S256x64_S256x64)
      (shapeCast S256x64 (View.ld (Val := Elt Ideal) (e' := .f32) x5 r0_0) shapeCasts_S256x64_S256x64)
      (shapeCast S256x64 (View.ld (Val := Elt Ideal) (e' := .f32) x6 r0_0) shapeCasts_S256x64_S256x64)
      (View.ld (Val := Elt Ideal) (e' := .f32) x7 r0_1)
      (View.ld (Val := Elt Ideal) (e' := .f32) x8 r0_2) := by
    rw [View.ld_unit_zero (S := S256x64) zero2, View.ld_unit_zero (S := S256x64) zero2, View.ld_unit_zero (S := S256x64) zero2,
      View.ld_unit_zero (S := S256x64) zero2, View.ld_unit_zero (S := S64x64) zero2, View.ld_unit_zero (S := S256x256) zero2,
      shapeCast_self x3, shapeCast_self x4, shapeCast_self x5, shapeCast_self x6]
  rw [e]
  rfl

/-- An entry of the block: column `h * 64 + d` is column `d` of head `h`. -/
theorem out_apply (x0 x1 x2 : FVec Ideal S1x16x256x64 .f32) (x3 x4 x5 x6 : FVec Ideal S256x64 .f32) (x7 : FVec Ideal S64x64 .f32)
    (x8 : FVec Ideal S256x256 .f32) (x : Fin 256) (h : Fin 16) (d : Fin 64) :
    out0_9 (F := Ideal) x0 x1 x2 x3 x4 x5 x6 x7 x8 (ix3 0 x ⟨h.val * 64 + d.val, by omega⟩) = head x0 x1 x2 x3 x4 x5 x6 x7 x8 h (ix2 x d) := by
  rw [out_eq]
  refine (shapeCast_apply _ _ _ (ix2 x ⟨h.val * 64 + d.val, by omega⟩) ?_).trans ?_
  · rw [Shape.rowMajor_val_two, Shape.rowMajor_val_three]
    show x.val * 1024 + (h.val * 64 + d.val) = (0 * 256 + x.val) * 1024 + (h.val * 64 + d.val)
    omega
  · exact concatenate_ofFn_apply (t := S256x1024) (s₁ := S256x64) (1 : Fin 2) (head x0 x1 x2 x3 x4 x5 x6 x7 x8) _ rfl 64 rfl _ h
      (by show (h.val * 64 + d.val) / 64 = h.val; omega) (ix2 x d)
      (by show d.val = (h.val * 64 + d.val) % 64; omega)
      (fun b hb => by
        match b with
        | ⟨0, _⟩ => rfl
        | ⟨1, _⟩ => exact absurd rfl hb)

end Cert.KernelIdeal.Attn

end
-- ==== Proof.HeadAt.lean ====
/-
  The pieces of a head read at an index, as sums and products of extended reals.
-/
module

public import proofs.«01_k».proof.Proof.Head
public import Idealize.ShloMosaic.PureOps.IdealRules

@[expose] public section

noncomputable section

namespace Cert.KernelIdeal.Attn

open Cert.KernelIdeal Cert.KernelIdeal.Gen Idealize.ShloMosaic Idealize.ShloMosaic.TcCoe

/-- The rotary turn at row `a`, column `d`. -/
theorem rotated_apply (x c s : FVec Ideal S256x64 .f32) (r : FVec Ideal S64x64 .f32) (a : Fin 256) (d : Fin 64) :
    rotated x c s r (ix2 a d) = x (ix2 a d) * c (ix2 a d) + (∑ k : Fin 64, x (ix2 a k) * r (ix2 k d)) * s (ix2 a d) := by
  pointwise [rotated]

/-- An unnormalised weight. -/
theorem weights_apply (q k : FVec Ideal S256x64 .f32) (b : FVec Ideal S256x256 .f32) (x y : Fin 256) :
    weights q k b (ix2 x y) = Ideal.exp ((∑ j : Fin 64, q (ix2 x j) * k (ix2 y j)) + b (ix2 x y)) := by
  pointwise [weights]

/-- A weighted average. -/
theorem averaged_apply (e : FVec Ideal S256x256 .f32) (v : FVec Ideal S256x64 .f32) (x : Fin 256) (d : Fin 64) :
    averaged e v (ix2 x d) = (∑ y : Fin 256, e (ix2 x y) * v (ix2 y d))
      * Ideal.div (Ideal.ofBits .f32 0x3F800000#32) (max (∑ y : Fin 256, e (ix2 x y)) (Ideal.ofBits .f32 0x0DA24260#32)) := by
  pointwise [averaged]

/-- The bias of a pair of rows, as the body uses it. -/
theorem biasOf_apply (b : FVec Ideal S256x256 .f32) (x y : Fin 256) :
    biasOf b (ix2 x y) = if b (ix2 x y) < Ideal.ofBits .f32 0xC2000000#32 then ⊥ else b (ix2 x y) := by
  pointwise [biasOf]
  rw [IdealRules.named_const.ideal_named_scalar κ "mask" (φ := .f32) 0xF149F2CA#32 ⊥ rfl]

/-- Head `n` of a block of sixteen heads, read at row `a`, column `d`. -/
theorem headBlock_apply (x : FVec Ideal S1x16x256x64 .f32) (n : Fin 16) (a : Fin 256) (d : Fin 64) :
    shapeCast S256x64 (View.ld (Val := Elt Ideal) (e' := .f32) x (headRect n)) shapeCasts_S1x1x256x64_S256x64 (ix2 a d) = x (ix4 0 n a d) := by
  refine (shapeCast_apply _ _ _ (ix4 0 0 a d) ?_).trans ?_
  · rw [Shape.rowMajor_val_two, Shape.rowMajor_val_four]
    show ((0 * 1 + 0) * 256 + a.val) * 64 + d.val = a.val * 64 + d.val
    omega
  · show x _ = x _
    congr 1
    funext b
    match b with
    | ⟨0, _⟩ => rfl
    | ⟨1, _⟩ => exact Fin.ext (by show n.val + 1 * 0 = n.val; omega)
    | ⟨2, _⟩ => exact Fin.ext (by show 0 + 1 * a.val = a.val; omega)
    | ⟨3, _⟩ => exact Fin.ext (by show 0 + 1 * d.val = d.val; omega)

end Cert.KernelIdeal.Attn

end
-- ==== Proof.BiasTable.lean ====
/-
  The words of the host's bias table: -32 at a pair of rows of one job, the far literal at any other pair.
-/
module

public import proofs.«01_k».proof.KernelIdeal

@[expose] public section

noncomputable section

namespace Cert.KernelIdeal.Attn

open Cert.KernelIdeal

/-- The words of the rows of one job of a block: -32 at the rows of that job, the far literal at the others. -/
def RowsRight (g : Nat) : Prop :=
  ∀ x : Fin 32, ∀ y : Fin 256, lit1t ((g * 32 + x.val) * 256 + y.val) = if g = y.val / 32 then 0xC2000000#32 else 0xF149F2CA#32

/-- It is decided row by row. -/
instance (g : Nat) : Decidable (RowsRight g) := by unfold RowsRight; infer_instance

set_option maxHeartbeats 4000000 in
/-- Every job's rows are right. -/
theorem rows_right : ∀ g : Fin 8, RowsRight g.val
  | 0 => by decide +kernel
  | 1 => by decide +kernel
  | 2 => by decide +kernel
  | 3 => by decide +kernel
  | 4 => by decide +kernel
  | 5 => by decide +kernel
  | 6 => by decide +kernel
  | 7 => by decide +kernel

/-- A word of the bias table. -/
theorem bias_bits (x y : Fin 256) : lit1t (x.val * 256 + y.val) = if x.val / 32 = y.val / 32 then 0xC2000000#32 else 0xF149F2CA#32 := by
  have h := rows_right ⟨x.val / 32, by omega⟩ ⟨x.val % 32, by omega⟩ y
  have e : x.val / 32 * 32 + x.val % 32 = x.val := by omega
  simpa only [e] using h

end Cert.KernelIdeal.Attn

end
-- ==== Proof.Softmax.lean ====
/-
  The arithmetic of one row of the attention, over the extended reals: a softmax that subtracts the row's maximum and
  divides by its sum is the sum of the values weighted by exponentials at a fixed offset, times the reciprocal of the total weight.
-/
module

public import Idealize.ShloMosaic.PureOps.Ideal.Laws
public import Idealize.ShloMosaic.Lib.Pointwise
public import Mathlib.Analysis.Complex.Exponential

@[expose] public section

noncomputable section

namespace Attn

open Idealize.ShloMosaic

/-- The value of the guard under the kernel's division. -/
def tiny : ℝ := 10633824 / 2 ^ 123

/-- Minus thirty-two, the kernel's offset inside a block. -/
theorem lit_offset : Ideal.ofBits .f32 0xC2000000#32 = ((-32 : ℝ) : EReal) := by
  simp [Ideal.ofBits, Ideal.ieee, -EReal.coe_mul]; norm_num

/-- The literal the host's table holds outside a block lies below the offset. -/
theorem lit_far : Ideal.ofBits .f32 0xF149F2CA#32 < Ideal.ofBits .f32 0xC2000000#32 := by
  rw [lit_offset]
  have h : Ideal.ofBits .f32 0xF149F2CA#32 = ((-(13234890 * 2 ^ 76) : ℝ) : EReal) := by
    simp [Ideal.ofBits, Ideal.ieee, -EReal.coe_mul]
  rw [h, EReal.coe_lt_coe_iff]
  norm_num

/-- The guard. -/
theorem lit_tiny : Ideal.ofBits .f32 0x0DA24260#32 = (tiny : EReal) := by
  simp [Ideal.ofBits, Ideal.ieee, -EReal.coe_mul, tiny]; norm_num

/-- One eighth, the scale the kernel folds into the tables of the queries. -/
theorem lit_eighth : Ideal.ofBits .f32 0x3E000000#32 = ((1 / 8 : ℝ) : EReal) := by
  simp [Ideal.ofBits, Ideal.ieee, -EReal.coe_mul]; norm_num

/-- Minus one. -/
theorem lit_neg_one : Ideal.ofBits .f32 0xBF800000#32 = -1 := by
  have h : Ideal.ofBits .f32 0xBF800000#32 = ((-1 : ℝ) : EReal) := by
    simp [Ideal.ofBits, Ideal.ieee, -EReal.coe_mul]; norm_num
  rw [h]; rfl

/-- Sixty-four. -/
theorem lit_64 : Ideal.ofBits .f32 0x42800000#32 = ((64 : ℝ) : EReal) := by
  simp [Ideal.ofBits, Ideal.ieee, -EReal.coe_mul]; norm_num

/-- Minus one billion, which the reference gives a row without a live score. -/
theorem lit_dead : Ideal.ofBits .f32 0xCE6E6B28#32 = ((-1000000000 : ℝ) : EReal) := by
  simp [Ideal.ofBits, Ideal.ieee, -EReal.coe_mul]; norm_num

/-- Minus infinity. -/
theorem lit_bot : Ideal.ofBits .f32 0xFF800000#32 = ⊥ := by
  simp [Ideal.ofBits, Ideal.ieee]

/-- Plus infinity. -/
theorem lit_top : Ideal.ofBits .f32 0x7F800000#32 = ⊤ := by
  simp [Ideal.ofBits, Ideal.ieee]

/-- The precondition's floor of a row's largest score. -/
theorem lit_floor : Ideal.ofBits .f32 0xC3940000#32 = ((-296 : ℝ) : EReal) := by
  simp [Ideal.ofBits, Ideal.ieee, -EReal.coe_mul]; norm_num

/-- The root of sixty-four is eight. -/
theorem sqrt_64 : Ideal.sqrt ((64 : ℝ) : EReal) = ((8 : ℝ) : EReal) := by
  rw [Ideal.sqrt_coe, if_neg (by norm_num), show (64 : ℝ) = 8 ^ 2 by norm_num, Real.sqrt_sq (by norm_num)]

/-- The guard lies below the smallest total weight of a row. -/
theorem tiny_le : tiny ≤ Real.exp (-69) := by
  have h : Real.exp 69 ≤ 2 ^ 123 / 10633824 := by
    have e : Real.exp 69 = Real.exp 1 ^ 69 := by rw [← Real.exp_nat_mul]; norm_num
    rw [e]
    have b : Real.exp 1 ≤ 2.7184 := by
      refine (Real.exp_bound' (x := 1) (by norm_num) le_rfl (n := 8) (by norm_num)).trans ?_
      norm_num [Finset.sum_range_succ, Nat.factorial]
    exact (pow_le_pow_left₀ (Real.exp_pos 1).le b 69).trans (by norm_num)
  rw [Real.exp_neg, tiny, show (10633824 / 2 ^ 123 : ℝ) = (2 ^ 123 / 10633824)⁻¹ by norm_num]
  exact inv_anti₀ (Real.exp_pos 69) h

/-- A nonnegative real factor comes out of a sum of extended reals. -/
theorem sum_mul_coe {ι : Type*} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- The exponential of a shifted score below plus infinity: a shift by a real is a real positive factor. -/
theorem exp_shift (t : EReal) (ht : t ≠ ⊤) (a b : ℝ) :
    Ideal.exp (t + (a : EReal)) = Ideal.exp (t + (b : EReal)) * (Real.exp (a - b) : EReal) := by
  induction t with
  | bot => simp
  | top => exact absurd rfl ht
  | coe r =>
    rw [← EReal.coe_add, ← EReal.coe_add, Ideal.exp_coe, Ideal.exp_coe, ← EReal.coe_mul, ← Real.exp_add]
    congr 2; ring

/-- The exponential of a shifted score below plus infinity is a nonnegative real. -/
theorem exp_real (t : EReal) (ht : t ≠ ⊤) (a : ℝ) : ∃ r : ℝ, 0 ≤ r ∧ Ideal.exp (t + (a : EReal)) = (r : EReal) := by
  induction t with
  | bot => exact ⟨0, le_rfl, by simp⟩
  | top => exact absurd rfl ht
  | coe r => exact ⟨Real.exp (r + a), (Real.exp_pos _).le, by rw [← EReal.coe_add, Ideal.exp_coe]⟩

/-- A row whose scores lie below plus infinity, one of them at least -37: its total weight at the offset -32 is a positive real above the guard. -/
theorem total_real {ι : Type*} [Fintype ι] (s : ι → EReal) (hs : ∀ j, s j ≠ ⊤) (j₀ : ι) (h₀ : ((-37 : ℝ) : EReal) ≤ s j₀) :
    ∃ z : ℝ, 0 < z ∧ tiny ≤ z ∧ ∑ j, Ideal.exp (s j + ((-32 : ℝ) : EReal)) = (z : EReal) := by
  choose r hr0 hr using fun j => exp_real (s j) (hs j) (-32)
  have h1 : Real.exp (-69) ≤ r j₀ := by
    have h2 := hr j₀
    revert h2 h₀
    generalize s j₀ = t, hs j₀ = ht
    induction t with
    | bot => intro h; exact absurd (le_bot_iff.1 h) (EReal.coe_ne_bot _)
    | top => exact absurd rfl ht
    | coe a =>
      intro h h2
      rw [← EReal.coe_add, Ideal.exp_coe] at h2
      rw [← EReal.coe_eq_coe_iff.1 h2]
      have := EReal.coe_le_coe_iff.1 h
      exact Real.exp_le_exp.2 (by linarith)
  have h3 : r j₀ ≤ ∑ j, r j := Finset.single_le_sum (fun j _ => hr0 j) (Finset.mem_univ j₀)
  refine ⟨∑ j, r j, (Real.exp_pos _).trans_le (h1.trans h3), tiny_le.trans (h1.trans h3), ?_⟩
  rw [Finset.sum_congr rfl fun j _ => hr j]
  exact (map_sum (⟨⟨Real.toEReal, EReal.coe_zero⟩, EReal.coe_add⟩ : ℝ →+ EReal) r Finset.univ).symm

/-- A row of the attention: dividing the exponentials of the scores, moved by a real `c` and less a real `m`, by their sum and then
    averaging the values is averaging the values with the exponentials of the scores less 32 and dividing by the guarded total weight. -/
theorem softmax_row {ι : Type*} [Fintype ι] (s v : ι → EReal) (hs : ∀ j, s j ≠ ⊤) (j₀ : ι) (h₀ : ((-37 : ℝ) : EReal) ≤ s j₀) (c : ℝ) :
    ∑ j, Ideal.div (Ideal.exp (s j + (c : EReal))) (∑ i, Ideal.exp (s i + (c : EReal))) * v j
      = (∑ j, Ideal.exp (s j + ((-32 : ℝ) : EReal)) * v j)
          * Ideal.div 1 (max (∑ j, Ideal.exp (s j + ((-32 : ℝ) : EReal))) (tiny : EReal)) := by
  obtain ⟨z, hz, hg, e⟩ := total_real s hs j₀ h₀
  have hp := Real.exp_pos (c - -32)
  have e' : ∑ i, Ideal.exp (s i + (c : EReal)) = ((z * Real.exp (c - -32) : ℝ) : EReal) := by
    rw [Finset.sum_congr rfl fun j _ => exp_shift (s j) (hs j) c (-32), sum_mul_coe _ _ _ hp.le, e, EReal.coe_mul]
  have m : max (z : EReal) (tiny : EReal) = (z : EReal) := max_eq_left (EReal.coe_le_coe_iff.2 hg)
  rw [e', e, m, Ideal.div_coe hz.ne', one_mul, ← sum_mul_coe _ _ _ (by positivity)]
  refine Finset.sum_congr rfl fun j _ => ?_
  rw [Ideal.div_coe (mul_pos hz hp).ne', exp_shift (s j) (hs j) c (-32), mul_assoc (Ideal.exp _), ← EReal.coe_mul,
    show Real.exp (c - -32) * (1 / (z * Real.exp (c - -32))) = 1 / z by field_simp]
  exact mul_right_comm _ _ _

/-- An eighth of a score below plus infinity lies below plus infinity. -/
theorem scaled_lt {s : EReal} (hs : s ≠ ⊤) : s * ((1 / 8 : ℝ) : EReal) < ⊤ := by
  induction s with
  | bot => rw [EReal.bot_mul_coe_of_pos (by norm_num)]; exact bot_lt_top
  | top => exact absurd rfl hs
  | coe r => rw [← EReal.coe_mul]; exact EReal.coe_lt_top _

/-- An eighth of a score of at least -296 is at least -37. -/
theorem scaled_ge {s : EReal} (hs : ((-296 : ℝ) : EReal) ≤ s) : ((-37 : ℝ) : EReal) ≤ s * ((1 / 8 : ℝ) : EReal) := by
  have h := mul_le_mul_of_nonneg_right hs (EReal.coe_nonneg.2 (by norm_num : (0 : ℝ) ≤ 1 / 8))
  rw [← EReal.coe_mul] at h
  exact (EReal.coe_le_coe_iff.2 (by norm_num)).trans h

/-- A sum over 256 lanes that vanishes outside the block of 32 lanes starting at `32 * p` is the sum over that block. -/
theorem sum_block (p : Fin 8) (f : Fin 256 → EReal) (hf : ∀ y : Fin 256, y.val / 32 ≠ p.val → f y = 0) :
    ∑ y, f y = ∑ j : Fin 32, f ⟨p.val * 32 + j.val, by omega⟩ := by
  symm
  refine Fintype.sum_of_injective (fun j : Fin 32 => (⟨p.val * 32 + j.val, by omega⟩ : Fin 256)) ?_ _ f ?_ fun _ => rfl
  · intro a b h
    have : p.val * 32 + a.val = p.val * 32 + b.val := congrArg Fin.val h
    exact Fin.ext (by omega)
  · intro y hy
    refine hf y fun h => hy ⟨⟨y.val % 32, by omega⟩, Fin.ext ?_⟩
    show p.val * 32 + y.val % 32 = y.val
    omega

end Attn

end
-- ==== Proof.RefValue.lean ====
/-
  The reference, over the extended reals: its scores as sums, the live pairs of a row, and its logits.
-/
module

public import proofs.«01_k».proof.Proof.Gen.ReferenceIdeal.Read
public import proofs.«01_k».proof.Proof.Softmax
public import Idealize.ShloMosaic.Lib.Pointwise

@[expose] public section

noncomputable section

namespace Cert.ReferenceIdeal.Attn

open Cert.ReferenceIdeal Cert.ReferenceIdeal.Gen Cert.ReferenceIdeal.Read Idealize.ShloMosaic Idealize.ShloMosaic.TcCoe

/-- The cosines of the rotary embedding, at a row of a job and a column. -/
def cosAt (o : Fin 32) (d : Fin 64) : EReal := val_main_v23 (F := Ideal) (ix2 o d)

/-- The sines of the rotary embedding, at a row of a job and a column. -/
def sinAt (o : Fin 32) (d : Fin 64) : EReal := val_main_v26 (F := Ideal) (ix2 o d)

/-- The row of operation `o` of job `r`. -/
abbrev rowOf (r : Fin 64) (o : Fin 32) : Fin 2048 := ⟨r.val * 32 + o.val, by omega⟩

/-- A row with each pair of columns swapped and the new even column negated. -/
def swapped (x : Fin 64 → EReal) (d : Fin 64) : EReal :=
  if d.val % 2 < 1 then -x ⟨1 + 2 * (d.val / 2), by omega⟩ else x ⟨2 * (d.val / 2), by omega⟩

/-- The rotary embedding of a row. -/
def roped (x : FVec Ideal S4x16x2048x64 .f32) (b : Fin 4) (h : Fin 16) (r : Fin 64) (o : Fin 32) (d : Fin 64) : EReal :=
  x (ix4 b h (rowOf r o) d) * cosAt o d + swapped (fun e => x (ix4 b h (rowOf r o) e)) d * sinAt o d

/-- The score of row `o` against row `j` of job `r`. -/
def score (q k : FVec Ideal S4x16x2048x64 .f32) (b : Fin 4) (h : Fin 16) (r : Fin 64) (o j : Fin 32) : EReal :=
  ∑ d : Fin 64, roped q b h r o d * roped k b h r j d

/-! ## Folds along the last axis, of any operand -/

section fold
variable (b : Fin 4) (h : Fin 16) (r : Fin 64) (o : Fin 32)

/-- The largest of a row. -/
theorem rowMax (x : FVec Ideal S4x16x64x32x32 .f32) (v : FVec Ideal S_ .f32) :
    Host.reduce FloatOps.maximumf x v reducesTo_S4x16x64x32x32_S4x16x64x32_d4 h_S_ (ix4 b h r o)
      = Finset.univ.fold max (v (Shape.Idx.first h_S_)) fun j => x (ix5 b h r o j) := by
  pointwise []

/-- The sum of a row of words. -/
theorem rowCount (x : IVec S4x16x64x32x32 32) (v : IVec S_ 32) :
    Host.reduce IntOp.addi x v reducesTo_S4x16x64x32x32_S4x16x64x32_d4 h_S_ (ix4 b h r o)
      = Finset.univ.fold IntOp.addi (v (Shape.Idx.first h_S_)) fun j => x (ix5 b h r o j) := by
  pointwise []

/-- The sum of a row. -/
theorem rowSum (x : FVec Ideal S4x16x64x32x32 .f32) (v : FVec Ideal S_ .f32) :
    Host.reduceAdd x v reducesTo_S4x16x64x32x32_S4x16x64x32_d4 h_S_ (ix4 b h r o)
      = v (Shape.Idx.first h_S_) + ∑ j, x (ix5 b h r o j) := by
  pointwise []

/-- Two arrays joined in pairs along a new last axis and read as one: even columns from the first, odd from the second. -/
theorem pairs_apply (x y : FVec Ideal S4x16x64x32x32 .f32) (d : Fin 64) :
    shapeCast S4x16x64x32x64 (concatenate S4x16x64x32x32x2 5
      [⟨S4x16x64x32x32x1, broadcastInDim S4x16x64x32x32x1 ![0, 1, 2, 3, 4] bcast_S4x16x64x32x32_S4x16x64x32x32x1_0_1_2_3_4 x⟩,
       ⟨S4x16x64x32x32x1, broadcastInDim S4x16x64x32x32x1 ![0, 1, 2, 3, 4] bcast_S4x16x64x32x32_S4x16x64x32x32x1_0_1_2_3_4 y⟩]
      concatenates_S4x16x64x32x32x1_S4x16x64x32x32x1_S4x16x64x32x32x2_d5) shapeCasts_S4x16x64x32x32x2_S4x16x64x32x64 (ix5 b h r o d)
      = if d.val % 2 < 1 then x (ix5 b h r o ⟨d.val / 2, by omega⟩) else y (ix5 b h r o ⟨d.val / 2, by omega⟩) := by
  pointwise []
  rfl

end fold

/-! ## The stages -/

section stage
variable (q k v : FVec Ideal S4x16x2048x64 .f32) (u : IVec S4x64x32x32 1) (b : Fin 4) (h : Fin 16) (r : Fin 64) (o : Fin 32)

/-- The even columns. -/
theorem even_apply (d : Fin 32) : val_main_v29 (F := Ideal) q (ix5 b h r o d) = q (ix4 b h (rowOf r o) ⟨2 * d.val, by omega⟩) := by
  pointwise [val_main_v29, val_main_v0]

/-- The odd columns, negated. -/
theorem odd_apply (d : Fin 32) : val_main_v31 (F := Ideal) q (ix5 b h r o d) = -q (ix4 b h (rowOf r o) ⟨1 + 2 * d.val, by omega⟩) := by
  pointwise [val_main_v31, val_main_v30, val_main_v0]

/-- The pairs swapped, at an index. -/
theorem swapped_apply (d : Fin 64) : val_main_v35 (F := Ideal) q (ix5 b h r o d) = swapped (fun e => q (ix4 b h (rowOf r o) e)) d := by
  refine (pairs_apply b h r o (val_main_v31 (F := Ideal) q) (val_main_v29 (F := Ideal) q) d).trans ?_
  rw [even_apply, odd_apply]
  rfl

/-- The reference's rotary embedding at an index. -/
theorem roped_apply (d : Fin 64) : val_main_v40 (F := Ideal) q (ix5 b h r o d) = roped q b h r o d := by
  rw [roped, ← swapped_apply]
  pointwise [val_main_v40, val_main_v37, val_main_v39, val_main_v36, val_main_v38, val_main_v27, val_main_v28, val_main_v0, cosAt, sinAt]

/-- The reference's score at an index. -/
theorem score_apply (j : Fin 32) : val_main_v54 (F := Ideal) q k (ix5 b h r o j) = score q k b h r o j := by
  have e : val_main_v52 (F := Ideal) k = val_main_v40 (F := Ideal) k := rfl
  pointwise [val_main_v54, val_main_v53]
  rw [e, score]
  exact Finset.sum_congr rfl fun d _ => by rw [roped_apply, roped_apply]

/-- The live pairs of a row. -/
theorem live_apply (j : Fin 32) : val_main_v62 (F := Ideal) q k u (ix5 b h r o j)
    = IntOp.andi (u (ix4 b r o j)) (BitVec.ofBool (decide (score q k b h r o j ≠ 0))) := by
  rw [← score_apply]
  pointwise [val_main_v62, val_main_v61, val_main_v58, val_main_v60, val_main_v59, val_main_cst_4]

/-- A scaled score, minus infinity where the pair is not live. -/
theorem masked_apply (j : Fin 32) : val_main_v63 (F := Ideal) q k u (ix5 b h r o j)
    = Scalar.select (val_main_v62 (F := Ideal) q k u (ix5 b h r o j)) (score q k b h r o j * ((1 / 8 : ℝ) : EReal)) ⊥ := by
  rw [← score_apply, ← Ideal.div_coe (by norm_num : (8 : ℝ) ≠ 0), ← _root_.Attn.sqrt_64, ← _root_.Attn.lit_64, ← _root_.Attn.lit_bot]
  pointwise [val_main_v63, val_main_v57, val_main_v55, val_main_v56, val_main_cst_3, val_main_call0_v1, val_main_call0_v0, val_main_cst_5]
  rfl

/-- The number of live pairs of a row. -/
theorem count_apply : val_main_v65 (F := Ideal) q k u (ix4 b h r o)
    = Finset.univ.fold IntOp.addi 0#32 fun j => (val_main_v62 (F := Ideal) q k u (ix5 b h r o j)).setWidth 32 := by
  unfold val_main_v65 val_main_v64
  generalize val_main_v62 (F := Ideal) q k u = y
  rw [rowCount]
  rfl

/-- A row's logits: minus one billion throughout where no pair is live. -/
theorem logit_apply (j : Fin 32) : val_main_v69 (F := Ideal) q k u (ix5 b h r o j)
    = Scalar.select (IntOp.cmpi .eq (val_main_v65 (F := Ideal) q k u (ix4 b h r o)) 0#32) ((-1000000000 : ℝ) : EReal)
        (val_main_v63 (F := Ideal) q k u (ix5 b h r o j)) := by
  rw [← _root_.Attn.lit_dead]
  unfold val_main_v69 val_main_call1_v0 val_main_v68 val_main_v66
  generalize val_main_v65 (F := Ideal) q k u = y
  generalize val_main_v63 (F := Ideal) q k u = z
  pointwise [val_main_v67, val_main_call1_v1, val_main_c_6, val_main_cst_7]

end stage

end Cert.ReferenceIdeal.Attn

end
-- ==== Proof.HostTables.lean ====
/-
  The tables that the host hands the kernel, read at an index: the rotary tables are those of the reference, repeated
  eight times down the rows of a block, the rotation is the signed swap of neighbouring columns, and the bias tells the
  pairs of rows of one job from the others.
-/
module

public import proofs.«01_k».proof.Proof.Gen.KernelIdeal.Frame
public import proofs.«01_k».proof.Proof.BiasTable
public import proofs.«01_k».proof.Proof.RefValue
public import Idealize.ShloMosaic.Lib.StableHlo.ReadAt
public import Idealize.ShloMosaic.Lib.Pointwise

@[expose] public section

noncomputable section

namespace Cert.KernelIdeal.Attn

open Cert.KernelIdeal Cert.KernelIdeal.Gen Idealize.ShloMosaic Idealize.ShloMosaic.TcCoe
open Cert.ReferenceIdeal.Attn (cosAt sinAt)

/-- A table of a job's rows repeated eight times down the rows of a block. -/
def tiled (t : FVec Ideal S32x64 .f32) : FVec Ideal S256x64 .f32 :=
  shapeCast S256x64 (broadcastInDim S8x32x1x64 ![0, 1, 2, 3] bcast_S1x32x1x64_S8x32x1x64_0_1_2_3
    (shapeCast S1x32x1x64 t shapeCasts_S32x64_S1x32x1x64)) shapeCasts_S8x32x1x64_S256x64

/-- The repeated table at row `a` is the table at row `a % 32`. -/
theorem tiled_apply (t : FVec Ideal S32x64 .f32) (a : Fin 256) (d : Fin 64) : tiled t (ix2 a d) = t (ix2 ⟨a.val % 32, by omega⟩ d) := by
  pointwise [tiled]

/-- An entry of the rotation: -1 just below the diagonal of each pair of columns, 1 just above it. -/
theorem swap_bits : ∀ k d : Fin 64, lit0t (k.val * 64 + d.val) =
    if k.val = d.val + 1 ∧ d.val % 2 = 0 then 0xBF800000#32 else if d.val = k.val + 1 ∧ k.val % 2 = 0 then 0x3F800000#32 else 0#32 := by
  decide +kernel

variable (m : (ℓ : Loc nD τ sig) → Buf (Elt Ideal) ℓ) (c : Dev nD)

/-- The kernel's cosines. -/
theorem V_cos : V m c main_call0_v26 = tiled (Cert.ReferenceIdeal.Read.val_main_v23 (F := Ideal)) := by
  after_reads_simp
  rfl

/-- The kernel's sines. -/
theorem V_sin : V m c main_call0_v29 = tiled (Cert.ReferenceIdeal.Read.val_main_v26 (F := Ideal)) := by
  after_reads_simp
  rfl

/-- The cosines for the queries, which carry the scale of the scores. -/
theorem V_cosq : V m c main_call0_v31 = mulf (tiled (Cert.ReferenceIdeal.Read.val_main_v23 (F := Ideal)))
    (broadcastInDim S256x64 ![] bcast_S_S256x64 (constant S_ .f32 0x3E000000#32)) := by
  after_reads_simp
  rfl

/-- The sines for the queries, which carry the scale of the scores. -/
theorem V_sinq : V m c main_call0_v33 = mulf (tiled (Cert.ReferenceIdeal.Read.val_main_v26 (F := Ideal)))
    (broadcastInDim S256x64 ![] bcast_S_S256x64 (constant S_ .f32 0x3E000000#32)) := by
  after_reads_simp
  rfl

/-- The rotation. -/
theorem V_rot : V m c main_call0_cst = fun i : S64x64.Idx => FloatOps.ofBits (F := Ideal) .f32 (lit0 (S64x64.rowMajor i)) := by
  after_reads_simp
  rfl

/-- The bias. -/
theorem V_bias : V m c main_call0_cst_0 = fun i : S256x256.Idx => FloatOps.ofBits (F := Ideal) .f32 (lit1 (S256x256.rowMajor i)) := by
  after_reads_simp
  rfl

/-- The table of the cosines, at an index. -/
theorem cos_apply (a : Fin 256) (d : Fin 64) : V m c main_call0_v26 (ix2 a d) = cosAt ⟨a.val % 32, by omega⟩ d := by
  rw [V_cos, tiled_apply]; rfl

/-- The table of the sines, at an index. -/
theorem sin_apply (a : Fin 256) (d : Fin 64) : V m c main_call0_v29 (ix2 a d) = sinAt ⟨a.val % 32, by omega⟩ d := by
  rw [V_sin, tiled_apply]; rfl

/-- The table of the scaled cosines, at an index. -/
theorem cosq_apply (a : Fin 256) (d : Fin 64) :
    V m c main_call0_v31 (ix2 a d) = cosAt ⟨a.val % 32, by omega⟩ d * ((1 / 8 : ℝ) : EReal) := by
  rw [V_cosq, ← _root_.Attn.lit_eighth]
  refine Eq.trans ?_ (congrArg (· * _) (tiled_apply (Cert.ReferenceIdeal.Read.val_main_v23 (F := Ideal)) a d))
  pointwise []

/-- The table of the scaled sines, at an index. -/
theorem sinq_apply (a : Fin 256) (d : Fin 64) :
    V m c main_call0_v33 (ix2 a d) = sinAt ⟨a.val % 32, by omega⟩ d * ((1 / 8 : ℝ) : EReal) := by
  rw [V_sinq, ← _root_.Attn.lit_eighth]
  refine Eq.trans ?_ (congrArg (· * _) (tiled_apply (Cert.ReferenceIdeal.Read.val_main_v26 (F := Ideal)) a d))
  pointwise []

/-- The rotation at an entry. -/
theorem rot_apply (k d : Fin 64) : V m c main_call0_cst (ix2 k d) =
    if k.val = d.val + 1 ∧ d.val % 2 = 0 then (-1 : EReal) else if d.val = k.val + 1 ∧ k.val % 2 = 0 then 1 else 0 := by
  rw [V_rot]
  show Ideal.ofBits .f32 (lit0t (S64x64.rowMajor (ix2 k d)).val) = _
  rw [Shape.rowMajor_val_two]
  show Ideal.ofBits .f32 (lit0t (k.val * 64 + d.val)) = _
  rw [swap_bits]
  split
  · exact _root_.Attn.lit_neg_one
  · split
    · exact Ideal.ofBits_one_f32
    · exact Ideal.ofBits_zero_f32

/-- A row times the rotation: each pair of columns swapped, the new even column negated. -/
theorem turn (x : Fin 64 → EReal) (d : Fin 64) : ∑ k : Fin 64, x k * V m c main_call0_cst (ix2 k d) =
    if d.val % 2 < 1 then -x ⟨1 + 2 * (d.val / 2), by omega⟩ else x ⟨2 * (d.val / 2), by omega⟩ := by
  split
  · rw [Finset.sum_eq_single (⟨1 + 2 * (d.val / 2), by omega⟩ : Fin 64)]
    · rw [rot_apply, if_pos ⟨by show 1 + _ = _; omega, by omega⟩]
      simp
    · intro k _ hk
      rw [rot_apply, if_neg (fun h => hk (Fin.ext (by show k.val = 1 + 2 * (d.val / 2); omega))), if_neg (by omega), mul_zero]
    · exact fun h => absurd (Finset.mem_univ _) h
  · rw [Finset.sum_eq_single (⟨2 * (d.val / 2), by omega⟩ : Fin 64)]
    · rw [rot_apply, if_neg (fun h => by have := h.2; omega), if_pos ⟨by show _ = 2 * _ + 1; omega, by show 2 * _ % 2 = 0; omega⟩, mul_one]
    · intro k _ hk
      rw [rot_apply, if_neg (by omega), if_neg (fun h => hk (Fin.ext (by show k.val = 2 * (d.val / 2); omega))), mul_zero]
    · exact fun h => absurd (Finset.mem_univ _) h

/-- The bias at a pair of rows: the offset inside a job, the far literal between jobs. -/
theorem bias_apply (x y : Fin 256) : V m c main_call0_cst_0 (ix2 x y) =
    if x.val / 32 = y.val / 32 then Ideal.ofBits .f32 0xC2000000#32 else Ideal.ofBits .f32 0xF149F2CA#32 := by
  rw [V_bias]
  show Ideal.ofBits .f32 (lit1t (S256x256.rowMajor (ix2 x y)).val) = _
  rw [Shape.rowMajor_val_two]
  show Ideal.ofBits .f32 (lit1t (x.val * 256 + y.val)) = _
  rw [bias_bits]
  exact apply_ite _ _ _ _

end Cert.KernelIdeal.Attn

end
-- ==== Proof.Array.lean ====
/-
  The kernel's result array at an index: each grid point writes its own block, so an entry of the array is an entry of the
  head that the entry's column names, at the grid point that its row names, over the blocks of the arguments there.
-/
module

public import proofs.«01_k».proof.Proof.Head
public import Idealize.ShloMosaic.Lib.Pipeline.ValueKit

@[expose] public section

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Where the blocks sit -/

/-- The block of the queries at a grid point: the point's batch and row block. -/
theorem idx0 : ∀ t : Fin cfg0.N, win0_0.index t = ![t.val / 8, 0, t.val % 8, 0] := (by decide +kernel : ∀ t : Fin grid0.N, _)
/-- The block of the keys at a grid point. -/
theorem idx1 : ∀ t : Fin cfg0.N, win0_1.index t = ![t.val / 8, 0, t.val % 8, 0] := (by decide +kernel : ∀ t : Fin grid0.N, _)
/-- The block of the values at a grid point. -/
theorem idx2 : ∀ t : Fin cfg0.N, win0_2.index t = ![t.val / 8, 0, t.val % 8, 0] := (by decide +kernel : ∀ t : Fin grid0.N, _)
/-- The scaled cosines are read whole. -/
theorem idx3 : ∀ t : Fin cfg0.N, win0_3.index t = ![0, 0] := (by decide +kernel : ∀ t : Fin grid0.N, _)
/-- The scaled sines are read whole. -/
theorem idx4 : ∀ t : Fin cfg0.N, win0_4.index t = ![0, 0] := (by decide +kernel : ∀ t : Fin grid0.N, _)
/-- The cosines are read whole. -/
theorem idx5 : ∀ t : Fin cfg0.N, win0_5.index t = ![0, 0] := (by decide +kernel : ∀ t : Fin grid0.N, _)
/-- The sines are read whole. -/
theorem idx6 : ∀ t : Fin cfg0.N, win0_6.index t = ![0, 0] := (by decide +kernel : ∀ t : Fin grid0.N, _)
/-- The rotation is read whole. -/
theorem idx7 : ∀ t : Fin cfg0.N, win0_7.index t = ![0, 0] := (by decide +kernel : ∀ t : Fin grid0.N, _)
/-- The bias is read whole. -/
theorem idx8 : ∀ t : Fin cfg0.N, win0_8.index t = ![0, 0] := (by decide +kernel : ∀ t : Fin grid0.N, _)
/-- The block of the result at a grid point. -/
theorem idx9 : ∀ t : Fin cfg0.N, win0_9.index t = ![t.val / 8, t.val % 8, 0] := (by decide +kernel : ∀ t : Fin grid0.N, _)

/-- The grid point of batch `b` and row block `r`. -/
def pt (b : Fin 4) (r : Fin 8) : Fin cfg0.N := ⟨b.val * 8 + r.val, by have : cfg0.N = 32 := N_0; omega⟩

/-- The batch of a grid point. -/
theorem pt_div (b : Fin 4) (r : Fin 8) : (pt b r).val / 8 = b.val := by show (b.val * 8 + r.val) / 8 = b.val; omega
/-- The row block of a grid point. -/
theorem pt_mod (b : Fin 4) (r : Fin 8) : (pt b r).val % 8 = r.val := by show (b.val * 8 + r.val) % 8 = r.val; omega

/-- Row `a` of row block `r`. -/
abbrev rowAt (r : Fin 8) (a : Fin 256) : Fin 2048 := ⟨r.val * 256 + a.val, by omega⟩

/-! ## What the input blocks hold -/

/-- The block of the queries, at an index. -/
theorem iblk0 (b : Fin 4) (r : Fin 8) (n : Fin 16) (a : Fin 256) (d : Fin 64) :
    iblk m c 0 (pt b r) (ix4 0 n a d) = m ((c : Thread nD τ).loc main_arg0) (ix4 b n (rowAt r a) d) := by
  rw [← V_main_arg0 m c]
  blk_ext! [iblk, idx0 (pt b r), pt_div b r, pt_mod b r]

/-- The block of the keys, at an index. -/
theorem iblk1 (b : Fin 4) (r : Fin 8) (n : Fin 16) (a : Fin 256) (d : Fin 64) :
    iblk m c 1 (pt b r) (ix4 0 n a d) = m ((c : Thread nD τ).loc main_arg1) (ix4 b n (rowAt r a) d) := by
  rw [← V_main_arg1 m c]
  blk_ext! [iblk, idx1 (pt b r), pt_div b r, pt_mod b r]

/-- The block of the values, at an index. -/
theorem iblk2 (b : Fin 4) (r : Fin 8) (n : Fin 16) (a : Fin 256) (d : Fin 64) :
    iblk m c 2 (pt b r) (ix4 0 n a d) = m ((c : Thread nD τ).loc main_arg2) (ix4 b n (rowAt r a) d) := by
  rw [← V_main_arg2 m c]
  blk_ext! [iblk, idx2 (pt b r), pt_div b r, pt_mod b r]

/-- The block of the scaled cosines is the table. -/
theorem iblk3 (t : Fin cfg0.N) (a : Fin 256) (d : Fin 64) : iblk m c 3 t (ix2 a d) = V m c main_call0_v31 (ix2 a d) := by
  blk_ext! [iblk, idx3 t]
/-- The block of the scaled sines is the table. -/
theorem iblk4 (t : Fin cfg0.N) (a : Fin 256) (d : Fin 64) : iblk m c 4 t (ix2 a d) = V m c main_call0_v33 (ix2 a d) := by
  blk_ext! [iblk, idx4 t]
/-- The block of the cosines is the table. -/
theorem iblk5 (t : Fin cfg0.N) (a : Fin 256) (d : Fin 64) : iblk m c 5 t (ix2 a d) = V m c main_call0_v26 (ix2 a d) := by
  blk_ext! [iblk, idx5 t]
/-- The block of the sines is the table. -/
theorem iblk6 (t : Fin cfg0.N) (a : Fin 256) (d : Fin 64) : iblk m c 6 t (ix2 a d) = V m c main_call0_v29 (ix2 a d) := by
  blk_ext! [iblk, idx6 t]
/-- The block of the rotation is the matrix. -/
theorem iblk7 (t : Fin cfg0.N) (a d : Fin 64) : iblk m c 7 t (ix2 a d) = V m c main_call0_cst (ix2 a d) := by
  blk_ext! [iblk, idx7 t]
/-- The block of the bias is the table. -/
theorem iblk8 (t : Fin cfg0.N) (x y : Fin 256) : iblk m c 8 t (ix2 x y) = V m c main_call0_cst_0 (ix2 x y) := by
  blk_ext! [iblk, idx8 t]

/-! ## The result array -/

/-- Two grid points with one block of the result are one point. -/
theorem inj9 : ∀ t t' : Fin cfg0.N, win0_9.index t = win0_9.index t' → t = t' :=
  (by decide +kernel : ∀ t t' : Fin grid0.N, win0_9.index t = win0_9.index t' → t = t')

/-- The blocks of two grid points are disjoint. -/
theorem disj9 (t t' : Fin cfg0.N) (_ : (cfg0.win 9).flush t = true) (_ : (cfg0.win 9).flush t' = true) (hne : t ≠ t') :
    Disjoint ((cfg0.win 9).blk t).view.set ((cfg0.win 9).blk t').view.set :=
  (cfg0.win 9).disjoint_blk fun h => hne (inj9 t t' h)

/-- An entry of the result: row block `r` of batch `b`, its row `x`, column `d` of head `h`. -/
theorem arr_apply (b : Fin 4) (r : Fin 8) (x : Fin 256) (h : Fin 16) (d : Fin 64) :
    (dats m 0 c).arrAt 9 cfg0.N (ix3 b (rowAt r x) ⟨h.val * 64 + d.val, by omega⟩)
      = head (iblk m c 0 (pt b r)) (iblk m c 1 (pt b r)) (iblk m c 2 (pt b r)) (iblk m c 3 (pt b r)) (iblk m c 4 (pt b r)) (iblk m c 5 (pt b r))
          (iblk m c 6 (pt b r)) (iblk m c 7 (pt b r)) (iblk m c 8 (pt b r)) h (ix2 x d) := by
  have e := (dats m 0 c).arrAt_emb_eq_flushed 9 disj9 (pt b r) (flush0_9 _) (ix3 0 x ⟨h.val * 64 + d.val, by omega⟩)
  rw [← out_apply]
  refine Eq.trans (congrArg ((dats m 0 c).arrAt 9 cfg0.N) ?_) (e.trans ?_)
  · blk_ext [idx9 (pt b r), pt_div b r, pt_mod b r]
  · show (cfg0.win 9).cut (grid0.coords (pt b r)) ((dats m 0 c).after 9 (pt b r)) _ = _
    rw [after0_9]
    rfl

/-! ## The run -/

/-- The kernel runs, ends with its result array as the grid points leave it, and keeps its arguments. -/
theorem run_result : θ_run defs (onTc (τ := τ) (main (F := Ideal))) ⟨m, fun _ => 0, ρ⟩ (fun r => ∀ c : Dev nD,
    r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 9, h.2 c⟩) (θ_run_and (run_main m ρ) (unchanged m ρ))

end Cert.KernelIdeal.Attn

end
-- ==== Proof.HeadRow.lean ====
/-
  A row of a head, over the blocks of a grid point: the kernel's rotated queries and keys are the reference's, the bias cuts
  the row's weights down to those of its own job, and the entry is the job's weighted values over the guarded total weight.
-/
module

public import proofs.«01_k».proof.Proof.HeadAt
public import proofs.«01_k».proof.Proof.HostTables
public import proofs.«01_k».proof.Proof.Array

@[expose] public section

noncomputable section

namespace Cert.KernelIdeal.Attn

open Cert.KernelIdeal Cert.KernelIdeal.Gen Idealize.ShloMosaic Idealize.ShloMosaic.TcCoe
open Cert.ReferenceIdeal.Attn (cosAt sinAt swapped roped score rowOf)

variable (m : (ℓ : Loc nD τ sig) → Buf (Elt Ideal) ℓ) (c : Dev nD) (b : Fin 4) (r : Fin 8) (n : Fin 16) (p : Fin 8) (o : Fin 32)

/-- The queries. -/
def qs : FVec Ideal S4x16x2048x64 .f32 := m ((c : Thread nD τ).loc main_arg0)
/-- The keys. -/
def ks : FVec Ideal S4x16x2048x64 .f32 := m ((c : Thread nD τ).loc main_arg1)
/-- The values. -/
def vs : FVec Ideal S4x16x2048x64 .f32 := m ((c : Thread nD τ).loc main_arg2)

/-- Row `o` of the `p`-th job of a row block. -/
abbrev inBlock (p : Fin 8) (o : Fin 32) : Fin 256 := ⟨p.val * 32 + o.val, by omega⟩
/-- The `p`-th job of row block `r`. -/
abbrev jobOf (r p : Fin 8) : Fin 64 := ⟨r.val * 8 + p.val, by omega⟩

/-- Row `o` of the `p`-th job of a row block is that row of the job in the array. -/
theorem row_eq : rowAt r (inBlock p o) = rowOf (jobOf r p) o :=
  Fin.ext (by show r.val * 256 + (p.val * 32 + o.val) = (r.val * 8 + p.val) * 32 + o.val; omega)

/-- Its row within the job. -/
theorem row_mod : (⟨(inBlock p o).val % 32, by omega⟩ : Fin 32) = o := Fin.ext (by show (p.val * 32 + o.val) % 32 = o.val; omega)

/-- A head's block of an argument. -/
abbrev headBlock (x : FVec Ideal S1x16x256x64 .f32) (n : Fin 16) : FVec Ideal S256x64 .f32 :=
  shapeCast S256x64 (View.ld (Val := Elt Ideal) (e' := .f32) x (headRect n)) shapeCasts_S1x1x256x64_S256x64

/-- A head's block of the queries, at a row of a job. -/
theorem q_block (d : Fin 64) : headBlock (iblk m c 0 (pt b r)) n (ix2 (inBlock p o) d) = qs m c (ix4 b n (rowOf (jobOf r p) o) d) := by
  rw [headBlock, headBlock_apply, iblk0, row_eq]; rfl
/-- A head's block of the keys, at a row of a job. -/
theorem k_block (d : Fin 64) : headBlock (iblk m c 1 (pt b r)) n (ix2 (inBlock p o) d) = ks m c (ix4 b n (rowOf (jobOf r p) o) d) := by
  rw [headBlock, headBlock_apply, iblk1, row_eq]; rfl
/-- A head's block of the values, at a row of a job. -/
theorem v_block (d : Fin 64) : headBlock (iblk m c 2 (pt b r)) n (ix2 (inBlock p o) d) = vs m c (ix4 b n (rowOf (jobOf r p) o) d) := by
  rw [headBlock, headBlock_apply, iblk2, row_eq]; rfl

/-- The kernel's rotated queries: the reference's, an eighth of them. -/
theorem q_rotated (d : Fin 64) :
    rotated (headBlock (iblk m c 0 (pt b r)) n) (iblk m c 3 (pt b r)) (iblk m c 4 (pt b r)) (iblk m c 7 (pt b r)) (ix2 (inBlock p o) d)
      = roped (qs m c) b n (jobOf r p) o d * ((1 / 8 : ℝ) : EReal) := by
  have t : ∑ k, headBlock (iblk m c 0 (pt b r)) n (ix2 (inBlock p o) k) * iblk m c 7 (pt b r) (ix2 k d)
      = swapped (fun e => qs m c (ix4 b n (rowOf (jobOf r p) o) e)) d :=
    (Finset.sum_congr rfl fun k _ => by rw [q_block, iblk7]).trans (turn m c _ d)
  rw [rotated_apply, t, q_block, iblk3, iblk4, cosq_apply, sinq_apply, row_mod, ← mul_assoc, ← mul_assoc,
    ← EReal.right_distrib_of_nonneg_of_ne_top (by exact_mod_cast (by norm_num : (0 : ℝ) ≤ 1 / 8)) (EReal.coe_ne_top _)]
  rfl

/-- The kernel's rotated keys are the reference's. -/
theorem k_rotated (d : Fin 64) :
    rotated (headBlock (iblk m c 1 (pt b r)) n) (iblk m c 5 (pt b r)) (iblk m c 6 (pt b r)) (iblk m c 7 (pt b r)) (ix2 (inBlock p o) d)
      = roped (ks m c) b n (jobOf r p) o d := by
  have t : ∑ k, headBlock (iblk m c 1 (pt b r)) n (ix2 (inBlock p o) k) * iblk m c 7 (pt b r) (ix2 k d)
      = swapped (fun e => ks m c (ix4 b n (rowOf (jobOf r p) o) e)) d :=
    (Finset.sum_congr rfl fun k _ => by rw [k_block, iblk7]).trans (turn m c _ d)
  rw [rotated_apply, t, k_block, iblk5, iblk6, cos_apply, sin_apply, row_mod]
  rfl

/-- A head's weights at a grid point. -/
abbrev weightsAt : FVec Ideal S256x256 .f32 :=
  weights (rotated (headBlock (iblk m c 0 (pt b r)) n) (iblk m c 3 (pt b r)) (iblk m c 4 (pt b r)) (iblk m c 7 (pt b r)))
    (rotated (headBlock (iblk m c 1 (pt b r)) n) (iblk m c 5 (pt b r)) (iblk m c 6 (pt b r)) (iblk m c 7 (pt b r))) (biasOf (iblk m c 8 (pt b r)))

/-- Within a job a weight is the exponential of the scaled score less 32. -/
theorem weights_near (j : Fin 32) : weightsAt m c b r n (ix2 (inBlock p o) (inBlock p j))
    = Ideal.exp (score (qs m c) (ks m c) b n (jobOf r p) o j * ((1 / 8 : ℝ) : EReal) + ((-32 : ℝ) : EReal)) := by
  have e := (bias_apply m c (inBlock p o) (inBlock p j)).trans
    (if_pos (by show (p.val * 32 + o.val) / 32 = (p.val * 32 + j.val) / 32; omega))
  rw [weightsAt, weights_apply, biasOf_apply, iblk8, e, if_neg (lt_irrefl _), _root_.Attn.lit_offset, score,
    ← _root_.Attn.sum_mul_coe _ _ _ (by norm_num)]
  refine congrArg (fun t => Ideal.exp (t + ((-32 : ℝ) : EReal))) (Finset.sum_congr rfl fun d _ => ?_)
  rw [q_rotated, k_rotated, mul_right_comm]

/-- Between jobs a weight is zero. -/
theorem weights_far (y : Fin 256) (hy : y.val / 32 ≠ p.val) : weightsAt m c b r n (ix2 (inBlock p o) y) = 0 := by
  have e := (bias_apply m c (inBlock p o) y).trans (if_neg (by show ¬(p.val * 32 + o.val) / 32 = y.val / 32; omega))
  rw [weightsAt, weights_apply, biasOf_apply, iblk8, e, if_pos _root_.Attn.lit_far, EReal.add_bot]
  exact Ideal.exp_bot

/-- An entry of a head. -/
theorem head_row (d : Fin 64) :
    head (iblk m c 0 (pt b r)) (iblk m c 1 (pt b r)) (iblk m c 2 (pt b r)) (iblk m c 3 (pt b r)) (iblk m c 4 (pt b r)) (iblk m c 5 (pt b r))
        (iblk m c 6 (pt b r)) (iblk m c 7 (pt b r)) (iblk m c 8 (pt b r)) n (ix2 (inBlock p o) d)
      = (∑ j : Fin 32, Ideal.exp (score (qs m c) (ks m c) b n (jobOf r p) o j * ((1 / 8 : ℝ) : EReal) + ((-32 : ℝ) : EReal))
            * vs m c (ix4 b n (rowOf (jobOf r p) j) d))
          * Ideal.div 1 (max (∑ j : Fin 32, Ideal.exp (score (qs m c) (ks m c) b n (jobOf r p) o j * ((1 / 8 : ℝ) : EReal) + ((-32 : ℝ) : EReal)))
              (_root_.Attn.tiny : EReal)) := by
  show averaged (weightsAt m c b r n) (headBlock (iblk m c 2 (pt b r)) n) (ix2 (inBlock p o) d) = _
  rw [averaged_apply, Ideal.ofBits_one_f32, _root_.Attn.lit_tiny,
    _root_.Attn.sum_block p _ fun y hy => by rw [weights_far m c b r n p o y hy, zero_mul],
    _root_.Attn.sum_block p (fun y => weightsAt m c b r n (ix2 (inBlock p o) y)) fun y hy => weights_far m c b r n p o y hy]
  simp only [weights_near, v_block]

end Cert.KernelIdeal.Attn

end
-- ==== Proof.RefRow.lean ====
/-
  The reference over the extended reals: a row's exponentials, its softmax, and the result at an index.
-/
module

public import proofs.«01_k».proof.Proof.RefValue

@[expose] public section

noncomputable section

namespace Cert.ReferenceIdeal.Attn

open Cert.ReferenceIdeal Cert.ReferenceIdeal.Gen Cert.ReferenceIdeal.Read Idealize.ShloMosaic Idealize.ShloMosaic.TcCoe

variable (q k v : FVec Ideal S4x16x2048x64 .f32) (u : IVec S4x64x32x32 1) (b : Fin 4) (h : Fin 16) (r : Fin 64) (o : Fin 32)

/-- The fold of a row's logits. -/
theorem fold_apply : val_main_v70 (F := Ideal) q k u (ix4 b h r o)
    = Finset.univ.fold max ⊥ fun j => val_main_v69 (F := Ideal) q k u (ix5 b h r o j) := by
  unfold val_main_v70 val_main_cst_8
  generalize val_main_v69 (F := Ideal) q k u = y
  exact (rowMax b h r o y (constant (F := Ideal) S_ .f32 0xFF800000#32)).trans
    (congrArg (fun z => Finset.univ.fold max z fun j => y (ix5 b h r o j)) _root_.Attn.lit_bot)

/-- A row's largest logit. -/
theorem top_apply : val_main_v72 (F := Ideal) q k u (ix4 b h r o)
    = max ⊥ (Finset.univ.fold max ⊥ fun j => val_main_v69 (F := Ideal) q k u (ix5 b h r o j)) := by
  rw [val_main_v72_apply, fold_apply]
  generalize (Finset.univ.fold max ⊥ fun j => val_main_v69 (F := Ideal) q k u (ix5 b h r o j)) = z
  exact congrArg (max · z) _root_.Attn.lit_bot

/-- A row's exponentials. -/
theorem exps_apply (j : Fin 32) : val_main_v76 (F := Ideal) q k u (ix5 b h r o j)
    = Ideal.exp (val_main_v69 (F := Ideal) q k u (ix5 b h r o j) - val_main_v72 (F := Ideal) q k u (ix4 b h r o)) := by
  have e : idx_main_v73 (idx_main_v74 (ix5 b h r o j)) = ix4 b h r o := funext fun a => match a with
    | ⟨0, _⟩ => rfl
    | ⟨1, _⟩ => rfl
    | ⟨2, _⟩ => rfl
    | ⟨3, _⟩ => rfl
  rw [val_main_v76_apply, val_main_v75_apply, val_main_v74_apply, val_main_v73_apply, e]
  generalize val_main_v69 (F := Ideal) q k u (ix5 b h r o j) = y
  generalize val_main_v72 (F := Ideal) q k u (ix4 b h r o) = z
  rfl

/-- A row's softmax. -/
theorem soft_apply (j : Fin 32) : val_main_v80 (F := Ideal) q k u (ix5 b h r o j)
    = Ideal.div (val_main_v76 (F := Ideal) q k u (ix5 b h r o j)) (∑ i, val_main_v76 (F := Ideal) q k u (ix5 b h r o i)) := by
  unfold val_main_v80 val_main_v79 val_main_v78 val_main_v77 val_main_cst_10
  generalize val_main_v76 (F := Ideal) q k u = y
  have e := rowSum b h r o y (constant (F := Ideal) S_ .f32 0x00000000#32)
  have e' : constant (F := Ideal) S_ .f32 0x00000000#32 (Shape.Idx.first h_S_) = 0 := Ideal.ofBits_zero_f32
  rw [e', zero_add] at e
  rw [← e]
  generalize Host.reduceAdd y (constant (F := Ideal) S_ .f32 0x00000000#32) reducesTo_S4x16x64x32x32_S4x16x64x32_d4 h_S_ = z
  pointwise []

/-- The result at row `o` of job `r`, column `d` of head `h`. -/
theorem result_apply (d : Fin 64) : val_main_v84 (F := Ideal) q k v u (ix3 b (rowOf r o) ⟨h.val * 64 + d.val, by omega⟩)
    = ∑ j : Fin 32, val_main_v80 (F := Ideal) q k u (ix5 b h r o j) * v (ix4 b h (rowOf r j) d) := by
  unfold val_main_v84 val_main_v83 val_main_v82 val_main_v81 val_main_v2
  generalize val_main_v80 (F := Ideal) q k u = y
  have main : ∀ l : Fin 2048, l.val = r.val * 32 + o.val → shapeCast S4x2048x1024 (transpose S4x2048x16x64 [0, 2, 1, 3] (shapeCast S4x16x2048x64
      (Host.dotGeneral (φ₁ := .f32) (φ₂ := .f32) dot_S4x16x64x32x32_S4x16x64x32x64_S4x16x64x32x64_4_3_3_4_012_012 none y (shapeCast S4x16x64x32x64 v shapeCasts_S4x16x2048x64_S4x16x64x32x64))
        shapeCasts_S4x16x64x32x64_S4x16x2048x64) transposes_S4x16x2048x64_S4x2048x16x64_0_2_1_3) shapeCasts_S4x2048x16x64_S4x2048x1024
        (ix3 b l ⟨h.val * 64 + d.val, by omega⟩) = ∑ j : Fin 32, y (ix5 b h r o j) * v (ix4 b h (rowOf r j) d) := by
    intro l hl
    have er : (⟨l.val / 32, by omega⟩ : Fin 64) = r := Fin.ext (by show l.val / 32 = r.val; omega)
    have eo : (⟨l.val % 32, by omega⟩ : Fin 32) = o := Fin.ext (by show l.val % 32 = o.val; omega)
    pointwise []
    refine Finset.sum_congr rfl fun j _ => ?_
    congr 2
    · rw [er, eo]
    · congr 1
      exact Fin.ext (by show l.val / 32 * 32 + j.val = r.val * 32 + j.val; omega)
  exact main _ rfl

end Cert.ReferenceIdeal.Attn

end
-- ==== Proof.RefExps.lean ====
/-
  The reference's exponentials along a row that the precondition admits.
-/
module

public import proofs.«01_k».proof.Proof.RefRow

@[expose] public section

noncomputable section

namespace Cert.ReferenceIdeal.Attn

open Cert.ReferenceIdeal Cert.ReferenceIdeal.Gen Cert.ReferenceIdeal.Read Idealize.ShloMosaic Idealize.ShloMosaic.TcCoe

variable (q k : FVec Ideal S4x16x2048x64 .f32) (u : IVec S4x64x32x32 1) (b : Fin 4) (h : Fin 16) (r : Fin 64) (o : Fin 32)

/-- A row whose scores lie below plus infinity, all zero or all nonzero, the largest at least -296, every pair admitted: its
    exponentials are those of the scaled scores moved by one real number. -/
theorem exps_row (hu : ∀ j, u (ix4 b r o j) = 1#1) (hs : ∀ j, score q k b h r o j ≠ ⊤)
    (hz : (∀ j, score q k b h r o j ≠ 0) ∨ ∀ j, score q k b h r o j = 0) (j₀ : Fin 32) (h₀ : ((-296 : ℝ) : EReal) ≤ score q k b h r o j₀) :
    ∃ c : ℝ, ∀ j, val_main_v76 (F := Ideal) q k u (ix5 b h r o j) = Ideal.exp (score q k b h r o j * ((1 / 8 : ℝ) : EReal) + (c : EReal)) := by
  rcases hz with hz | hz
  · have hl : ∀ j, val_main_v62 (F := Ideal) q k u (ix5 b h r o j) = 1#1 := fun j => by
      rw [live_apply, hu, decide_eq_true (hz j)]; rfl
    have hc : val_main_v65 (F := Ideal) q k u (ix4 b h r o) = 32#32 := by
      rw [count_apply]
      refine (Finset.fold_congr fun j _ => congrArg (BitVec.setWidth 32) (hl j)).trans ?_
      decide +kernel
    have ht : ∀ j, val_main_v69 (F := Ideal) q k u (ix5 b h r o j) = score q k b h r o j * ((1 / 8 : ℝ) : EReal) := fun j => by
      rw [logit_apply, hc, masked_apply, hl]; rfl
    have hM : val_main_v72 (F := Ideal) q k u (ix4 b h r o) ≠ ⊤ ∧ val_main_v72 (F := Ideal) q k u (ix4 b h r o) ≠ ⊥ := by
      rw [top_apply, max_eq_right bot_le]
      constructor
      · refine ((Finset.fold_max_lt _).2 ⟨bot_lt_top, fun j _ => ?_⟩).ne
        rw [ht]
        exact _root_.Attn.scaled_lt (hs j)
      · refine ((EReal.bot_lt_coe (-37)).trans_le ((Finset.le_fold_max _).2 (Or.inr ⟨j₀, Finset.mem_univ _, ?_⟩))).ne'
        rw [ht]
        exact _root_.Attn.scaled_ge h₀
    refine ⟨-(val_main_v72 (F := Ideal) q k u (ix4 b h r o)).toReal, fun j => ?_⟩
    rw [exps_apply, ht, sub_eq_add_neg, EReal.coe_neg, EReal.coe_toReal hM.1 hM.2]
  · have hl : ∀ j, val_main_v62 (F := Ideal) q k u (ix5 b h r o j) = 0#1 := fun j => by
      rw [live_apply, hu, decide_eq_false (not_not.2 (hz j))]; rfl
    have hc : val_main_v65 (F := Ideal) q k u (ix4 b h r o) = 0#32 := by
      rw [count_apply]
      refine (Finset.fold_congr fun j _ => congrArg (BitVec.setWidth 32) (hl j)).trans ?_
      decide +kernel
    have ht : ∀ j, val_main_v69 (F := Ideal) q k u (ix5 b h r o j) = ((-1000000000 : ℝ) : EReal) := fun j => by
      rw [logit_apply, hc]; rfl
    have hM : val_main_v72 (F := Ideal) q k u (ix4 b h r o) = ((-1000000000 : ℝ) : EReal) := by
      rw [top_apply, max_eq_right bot_le]
      refine le_antisymm ((Finset.fold_max_le _).2 ⟨bot_le, fun j _ => (ht j).le⟩) ((Finset.le_fold_max _).2 (Or.inr ⟨j₀, Finset.mem_univ _, (ht j₀).ge⟩))
    refine ⟨0, fun j => ?_⟩
    rw [exps_apply, ht, hM, hz, zero_mul, zero_add, ← EReal.coe_sub, sub_self]

end Cert.ReferenceIdeal.Attn

end
-- ==== Proof.Pre.lean ====
/-
  The precondition, read back: every pair of a job is admitted, and each row of scores lies below plus infinity, is all zero or
  all nonzero, and has an entry that is at least -296.
-/
module

public import proofs.«01_k».proof.Proof.RefValue
public import proofs.«01_k».proof.Pre_drawn
public import Idealize.ShloMosaic.Lib.ReduceAll

@[expose] public section

noncomputable section

namespace Cert.Pre_drawn

open Idealize.ShloMosaic

/-- The predicate's shape relations hold. -/
instance facts : Cert.Pre_drawn.Facts := by constructor <;> decide

open Facts

/-- The products of rows of two arrays, job by job. -/
def products (x y : FVec Ideal S4x16x64x32x64 .f32) : FVec Ideal S4x16x64x32x32 .f32 :=
  Host.reduceAdd (mulf
    (broadcastInDim S4x16x64x32x32x64 ![0, 1, 2, 3, 4, 5] bcast_S4x16x64x32x1x64_S4x16x64x32x32x64_0_1_2_3_4_5
      (broadcastInDim S4x16x64x32x1x64 ![0, 1, 2, 3, 5] bcast_S4x16x64x32x64_S4x16x64x32x1x64_0_1_2_3_5 x))
    (broadcastInDim S4x16x64x32x32x64 ![0, 1, 2, 3, 4, 5] bcast_S4x16x64x1x32x64_S4x16x64x32x32x64_0_1_2_3_4_5
      (broadcastInDim S4x16x64x1x32x64 ![0, 1, 2, 4, 5] bcast_S4x16x64x32x64_S4x16x64x1x32x64_0_1_2_4_5 y)))
    (constant S_ .f32 0x00000000#32) reducesTo_S4x16x64x32x32x64_S4x16x64x32x32_d5 h_S_

/-- The products are summed over the last axis. -/
theorem reduces_products : S4x16x64x32x32x64.Reduces [5] S4x16x64x32x32 := by decide

/-- The products at an index: the product of two rows of a job. -/
theorem products_apply (x y : FVec Ideal S4x16x64x32x64 .f32) (b : Fin 4) (h : Fin 16) (r : Fin 64) (o j : Fin 32) :
    products x y (ix5 b h r o j) = ∑ d : Fin 64, x (ix5 b h r o d) * y (ix5 b h r j d) := by
  unfold products
  refine (Ideal.hostReduceAdd_single _ reduces_products _ _ _).trans ?_
  refine (congrArg (· + _) Ideal.ofBits_zero_f32).trans ((zero_add _).trans (Finset.sum_congr rfl fun d _ => congrArg₂ (· * ·) ?_ ?_))
  · exact congrArg x (funext fun a => match a with
      | ⟨0, _⟩ => rfl
      | ⟨1, _⟩ => rfl
      | ⟨2, _⟩ => rfl
      | ⟨3, _⟩ => rfl
      | ⟨4, _⟩ => rfl)
  · exact congrArg y (funext fun a => match a with
      | ⟨0, _⟩ => rfl
      | ⟨1, _⟩ => rfl
      | ⟨2, _⟩ => rfl
      | ⟨3, _⟩ => rfl
      | ⟨4, _⟩ => rfl)

/-- Where the scores are not zero. -/
def nonzero (s : FVec Ideal S4x16x64x32x32 .f32) : IVec S4x16x64x32x32 1 :=
  cmpf .une s (broadcastInDim S4x16x64x32x32 ![] bcast_S_S4x16x64x32x32 (constant S_ .f32 0x00000000#32))

/-- Whether each score is zero as the first of its row is. -/
def alike (s : FVec Ideal S4x16x64x32x32 .f32) : IVec S4x16x64x32x32 1 :=
  cmpi .eq (nonzero s) (broadcastInDim S4x16x64x32x32 ![0, 1, 2, 3, 4] bcast_S4x16x64x32x1_S4x16x64x32x32_0_1_2_3_4
    (extractStridedSlice S4x16x64x32x1 ![0, 0, 0, 0, 0] (nonzero s) slices_S4x16x64x32x32_S4x16x64x32x1_0_0_0_0_0))

/-- The predicate over the rotated rows. -/
theorem fn_eq (q k v : FVec Ideal S4x16x2048x64 .f32) (w : IVec S4x64x32 1) (u : IVec S4x64x32x32 1) :
    fn (F := Ideal) q k v w u
      = fn_part3 (products (Cert.ReferenceIdeal.Read.val_main_v40 (F := Ideal) q) (Cert.ReferenceIdeal.Read.val_main_v40 (F := Ideal) k))
          (Host.reduce IntOp.andi u (constantI S_ 1 1#1) reducesTo_S4x64x32x32_S_d0_1_2_3 h_S_)
          (alike (products (Cert.ReferenceIdeal.Read.val_main_v40 (F := Ideal) q) (Cert.ReferenceIdeal.Read.val_main_v40 (F := Ideal) k)))
          (constantI S_ 1 1#1) := rfl

/-- A scalar has one index. -/
instance : Subsingleton S_.Idx := ⟨fun _ _ => funext fun a => a.elim0⟩

/-- The test against -296, at an index. -/
theorem floor_apply (s : FVec Ideal S4x16x64x32 .f32) (b : Fin 4) (n : Fin 16) (r : Fin 64) (o : Fin 32) :
    cmpf .oge s (broadcastInDim S4x16x64x32 ![] bcast_S_S4x16x64x32 (constant S_ .f32 0xC3940000#32)) (ix4 b n r o)
      = BitVec.ofBool (decide (Ideal.ofBits .f32 0xC3940000#32 ≤ s (ix4 b n r o))) := by
  pointwise []

/-- The predicate's four tests, each at one row. -/
theorem split (s : FVec Ideal S4x16x64x32x32 .f32) (a : IVec S_ 1) (e : IVec S4x16x64x32x32 1) (i : S_.Idx)
    (h : fn_part3 s a e (constantI S_ 1 1#1) i = 1#1) (b : Fin 4) (n : Fin 16) (r : Fin 64) (o : Fin 32) :
    a i = 1#1 ∧ (∀ j, e (ix5 b n r o j) = 1#1) ∧ (∀ j, s (ix5 b n r o j) < ⊤)
      ∧ ∃ j, ((-296 : ℝ) : EReal) ≤ s (ix5 b n r o j) := by
  obtain ⟨h, h4⟩ := IntOp.andi_eq_one.1 h
  obtain ⟨h, h3⟩ := IntOp.andi_eq_one.1 h
  obtain ⟨h1, h2⟩ := IntOp.andi_eq_one.1 h
  refine ⟨h1, fun j => Host.reduce_andi_all _ _ _ _ _ h2 _, fun j => ?_, ?_⟩
  · have e := Host.reduce_andi_all _ _ _ _ _ h3 (ix5 b n r o j)
    have e' : BitVec.ofBool (decide (s (ix5 b n r o j) < Ideal.ofBits .f32 0x7F800000#32)) = 1#1 := e
    rw [_root_.Attn.lit_top] at e'
    by_contra hn
    rw [decide_eq_false hn] at e'
    exact absurd e' (by decide)
  · have e := Host.reduce_andi_all _ _ _ _ _ h4 (ix4 b n r o)
    have e' := (floor_apply (Host.reduce FloatOps.maximumf s (constant (F := Ideal) S_ .f32 0xFF800000#32) reducesTo_S4x16x64x32x32_S4x16x64x32_d4 h_S_)
      b n r o).symm.trans e
    rw [_root_.Attn.lit_floor, Cert.ReferenceIdeal.Attn.rowMax b n r o s (constant (F := Ideal) S_ .f32 0xFF800000#32)] at e'
    have e'' : constant (F := Ideal) S_ .f32 0xFF800000#32 (Shape.Idx.first h_S_) = ⊥ := _root_.Attn.lit_bot
    by_contra hn
    rw [decide_eq_false] at e'
    · exact absurd e' (by decide)
    · intro hle
      rcases (Finset.le_fold_max _).1 hle with hb | ⟨j, -, hj⟩
      · rw [e''] at hb
        exact absurd hb (not_le.2 (EReal.bot_lt_coe _))
      · exact hn ⟨j, hj⟩

/-- The test against the first of the row, at an index. -/
theorem alike_apply (s : FVec Ideal S4x16x64x32x32 .f32) (b : Fin 4) (n : Fin 16) (r : Fin 64) (o j : Fin 32) :
    alike s (ix5 b n r o j) = IntOp.cmpi .eq (BitVec.ofBool (decide (s (ix5 b n r o j) ≠ 0))) (BitVec.ofBool (decide (s (ix5 b n r o 0) ≠ 0))) := by
  rw [← Ideal.ofBits_zero_f32]
  pointwise [alike, nonzero]

/-- What the precondition says of a row. -/
theorem decode (q k v : FVec Ideal S4x16x2048x64 .f32) (w : IVec S4x64x32 1) (u : IVec S4x64x32x32 1)
    (hp : fn (F := Ideal) q k v w u = fun _ => 1#1) (b : Fin 4) (n : Fin 16) (r : Fin 64) (o : Fin 32) :
    (∀ j, u (ix4 b r o j) = 1#1)
      ∧ (∀ j, Cert.ReferenceIdeal.Attn.score q k b n r o j ≠ ⊤)
      ∧ ((∀ j, Cert.ReferenceIdeal.Attn.score q k b n r o j ≠ 0) ∨ ∀ j, Cert.ReferenceIdeal.Attn.score q k b n r o j = 0)
      ∧ ∃ j, ((-296 : ℝ) : EReal) ≤ Cert.ReferenceIdeal.Attn.score q k b n r o j := by
  rw [fn_eq] at hp
  have hs : ∀ j, products (Cert.ReferenceIdeal.Read.val_main_v40 (F := Ideal) q) (Cert.ReferenceIdeal.Read.val_main_v40 (F := Ideal) k) (ix5 b n r o j)
      = Cert.ReferenceIdeal.Attn.score q k b n r o j := fun j => by
    rw [products_apply, Cert.ReferenceIdeal.Attn.score]
    exact Finset.sum_congr rfl fun d _ => by rw [Cert.ReferenceIdeal.Attn.roped_apply, Cert.ReferenceIdeal.Attn.roped_apply]
  generalize products (Cert.ReferenceIdeal.Read.val_main_v40 (F := Ideal) q) (Cert.ReferenceIdeal.Read.val_main_v40 (F := Ideal) k) = s at hp hs
  obtain ⟨h1, h2, h3, j₀, h4⟩ := split s _ _ _ (congrFun hp (Shape.Idx.first h_S_)) b n r o
  have ha : ∀ j, decide (s (ix5 b n r o j) ≠ 0) = decide (s (ix5 b n r o 0) ≠ 0) := fun j => by
    have e := IntOp.cmpi_eq.1 ((alike_apply s b n r o j).symm.trans (h2 j))
    generalize decide (s (ix5 b n r o j) ≠ 0) = x at e ⊢
    generalize decide (s (ix5 b n r o 0) ≠ 0) = y at e ⊢
    revert x y
    decide
  refine ⟨fun j => Host.reduce_andi_all _ _ _ _ _ h1 _, fun j => hs j ▸ (h3 j).ne, ?_, j₀, hs j₀ ▸ h4⟩
  by_cases h0 : s (ix5 b n r o 0) ≠ 0
  · exact Or.inl fun j => hs j ▸ of_decide_eq_true ((ha j).trans (decide_eq_true h0))
  · exact Or.inr fun j => hs j ▸ not_not.1 (of_decide_eq_false ((ha j).trans (decide_eq_false h0)))

end Cert.Pre_drawn

end
-- ==== Proof.Equation.lean ====
/-
  The two results are one array: under the precondition each entry of the kernel's result is that entry of the reference's.
-/
module

public import proofs.«01_k».proof.Proof.HeadRow
public import proofs.«01_k».proof.Proof.RefExps
public import proofs.«01_k».proof.Proof.Pre
public import proofs.«01_k».proof.Defs

@[expose] public section

noncomputable section

namespace Cert.KernelIdeal.Attn

open Cert.KernelIdeal Cert.KernelIdeal.Gen Idealize.ShloMosaic Idealize.ShloMosaic.TcCoe
open Cert.ReferenceIdeal.Attn (score rowOf exps_row soft_apply result_apply)
open Cert.ReferenceIdeal.Read (val_main_v84)

variable (m : (ℓ : Loc nD τ sig) → Buf (Elt Ideal) ℓ) (c : Dev nD)

/-- Which pairs of rows of a job are admitted. -/
def us : IVec Cert.ReferenceIdeal.S4x64x32x32 1 := m ((c : Thread nD τ).loc main_arg4)

/-- One entry of the two results. -/
theorem entry (hp : Pre_KernelIdeal_drawn m) (b : Fin 4) (r p : Fin 8) (o : Fin 32) (n : Fin 16) (d : Fin 64) :
    (dats m 0 c).arrAt 9 cfg0.N (ix3 b (rowAt r (inBlock p o)) ⟨n.val * 64 + d.val, by omega⟩)
      = val_main_v84 (F := Ideal) (qs m c) (ks m c) (vs m c) (us m c) (ix3 b (rowAt r (inBlock p o)) ⟨n.val * 64 + d.val, by omega⟩) := by
  obtain ⟨hu, hs, hz, j₀, h₀⟩ := Cert.Pre_drawn.decode (qs m c) (ks m c) (vs m c) _ (us m c) (hp c) b n (jobOf r p) o
  obtain ⟨s, he⟩ := exps_row (qs m c) (ks m c) (us m c) b n (jobOf r p) o hu hs hz j₀ h₀
  rw [arr_apply, head_row, row_eq, result_apply]
  simp only [soft_apply, he]
  exact (_root_.Attn.softmax_row (fun j => score (qs m c) (ks m c) b n (jobOf r p) o j * ((1 / 8 : ℝ) : EReal))
    (fun j => vs m c (ix4 b n (rowOf (jobOf r p) j) d)) (fun j => (_root_.Attn.scaled_lt (hs j)).ne) j₀ (_root_.Attn.scaled_ge h₀) s).symm

/-- The two results. -/
theorem result_eq (hp : Pre_KernelIdeal_drawn m) :
    (dats m 0 c).arrAt 9 cfg0.N = val_main_v84 (F := Ideal) (qs m c) (ks m c) (vs m c) (us m c) := by
  refine funext fun (i : S4x2048x1024.Idx) => ?_
  have h1 : (i 1).val < 2048 := (i 1).isLt
  have h2 : (i 2).val < 1024 := (i 2).isLt
  have e : i = ix3 (i 0) (rowAt ⟨(i 1).val / 256, by omega⟩ (inBlock ⟨(i 1).val % 256 / 32, by omega⟩ ⟨(i 1).val % 32, by omega⟩))
      ⟨(⟨(i 2).val / 64, by omega⟩ : Fin 16).val * 64 + (⟨(i 2).val % 64, by omega⟩ : Fin 64).val, by show (i 2).val / 64 * 64 + (i 2).val % 64 < 1024; omega⟩ :=
    funext fun a => match a with
      | ⟨0, _⟩ => rfl
      | ⟨1, _⟩ => Fin.ext (by show (i 1).val = (i 1).val / 256 * 256 + ((i 1).val % 256 / 32 * 32 + (i 1).val % 32); omega)
      | ⟨2, _⟩ => Fin.ext (by show (i 2).val = (i 2).val / 64 * 64 + (i 2).val % 64; omega)
  rw [e]
  exact entry m c hp _ _ _ _ _ _

end Cert.KernelIdeal.Attn

end
-- ==== Proof.lean ====
/-
  The certificate: the kernel and the reference run, end with their arguments unchanged and every counter at zero; the kernel with
  its mask named is the kernel; and under the precondition the two results are one array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference runs, ends with its arguments unchanged, and has no counter. -/
theorem reference_quiescent : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is a function of its arguments. -/
theorem reference_result (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r =>
      ∀ c : Dev Cert.ReferenceIdeal.nD, r.2.mem ((c.tc : Thread Cert.ReferenceIdeal.nD Cert.ReferenceIdeal.τ).loc Cert.ReferenceIdeal.main_v84)
        = Cert.ReferenceIdeal.Read.val_main_v84 (F := Ideal)
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg4))) :=
  (θ_run Cert.ReferenceIdeal.defs _ _).mono (fun _ h c => (h c).1.trans (Cert.ReferenceIdeal.Read.val_main_v84_eq _))
    (Cert.ReferenceIdeal.Value.run (F := Ideal) m ρ)

/-- Under the precondition the kernel and the reference end with one result. -/
theorem results_agree : Cert.algebraic_KernelIdeal_ReferenceIdeal_pre_drawn := by
  intro m ρ m' ρ' hp hagree
  refine ⟨fun c => (Cert.KernelIdeal.Gen.dats m 0 c).arrAt 9 Cert.KernelIdeal.cfg0.N, Cert.KernelIdeal.Attn.run_result m ρ, ?_⟩
  refine (θ_run Cert.ReferenceIdeal.defs _ _).mono (fun _ h c => ⟨(h.1 c).trans ?_, (h.2 c).2⟩)
    (θ_run_and (reference_result m' ρ') (Cert.ReferenceIdeal.Value.run (F := Ideal) m' ρ'))
  obtain ⟨h0, h1, h2, -, h4⟩ := hagree c
  rw [h0, h1, h2, h4]
  exact (Cert.KernelIdeal.Attn.result_eq m c hp).symm

/-- Everything the certificate claims. -/
theorem claim : Cert.Claim :=
  ⟨Cert.Kernel.Gen.facts, Cert.KernelIdeal.Gen.facts, Cert.ReferenceIdeal.Gen.facts, Cert.Pre_drawn.facts,
    fun m ρ _ => Cert.Kernel.Gen.frame m ρ, fun m ρ _ => Cert.KernelIdeal.Gen.frame m ρ, fun m ρ _ => Cert.KernelIdeal.Gen.frame m ρ,
    reference_quiescent, fun m ρ _ => reference_quiescent m ρ trivial,
    IdealRules.named_const.statement Cert.KernelIdeal.κ "mask" .f32 0xF149F2CA#32 ⊥ rfl, results_agree⟩

end Cert.Proof

end
